-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x512x80 : Shape := ⟨3, ![8, 512, 80]⟩
abbrev S8 : Shape := ⟨1, ![8]⟩
abbrev S8x128 : Shape := ⟨2, ![8, 128]⟩
abbrev S80x512 : Shape := ⟨2, ![80, 512]⟩
abbrev S512 : Shape := ⟨1, ![512]⟩
abbrev S500x512 : Shape := ⟨2, ![500, 512]⟩
abbrev S512x500 : Shape := ⟨2, ![512, 500]⟩
abbrev S500 : Shape := ⟨1, ![500]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x128 : S_.BroadcastsInDim S8x128 (![] : Fin 0 → Fin S8x128.rank)
  reducesTo_S8x128_S_d0_1 : S8x128.ReducesTo [0, 1] S_
  bcast_S_S8x512x80 : S_.BroadcastsInDim S8x512x80 (![] : Fin 0 → Fin S8x512x80.rank)
  reducesTo_S8x512x80_S_d0_1_2 : S8x512x80.ReducesTo [0, 1, 2] S_
  bcast_S_S80x512 : S_.BroadcastsInDim S80x512 (![] : Fin 0 → Fin S80x512.rank)
  reducesTo_S80x512_S_d0_1 : S80x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S512x500 : S_.BroadcastsInDim S512x500 (![] : Fin 0 → Fin S512x500.rank)
  reducesTo_S512x500_S_d0_1 : S512x500.ReducesTo [0, 1] S_
  bcast_S_S500 : S_.BroadcastsInDim S500 (![] : Fin 0 → Fin S500.rank)
  reducesTo_S500_S_d0 : S500.ReducesTo [0] S_

variable [Facts]

def fn_part3 {F : FTy → Type} [FloatOps F] (main_arg9 : FVec F S512x500 .f32) (main_arg10 : FVec F S500 .f32) (main_v19 : IVec S_ 1) (main_v49 : IVec S_ 1) : IVec S_ 1 :=
  let main_v50 : FVec F S512x500 .f32 := Host.absf main_arg9
  let main_cst_20 : FVec F S_ .f32 := constant S_ .f32 0x7F800000#32
  let main_v51 : FVec F S512x500 .f32 := broadcastInDim S512x500 ![] bcast_S_S512x500 main_cst_20
  let main_v52 : IVec S512x500 1 := cmpf .olt main_v50 main_v51
  let main_c_21 : IVec S_ 1 := constantI S_ 1 1#1
  let main_v53 : IVec S_ 1 := (fun x v => Host.reduce IntOp.andi x v reducesTo_S512x500_S_d0_1 h_S_) main_v52 main_c_21
  let main_v54 : IVec S_ 1 := andi main_v49 main_v53
  let main_v55 : FVec F S500 .f32 := Host.absf main_arg10
  let main_cst_22 : FVec F S_ .f32 := constant S_ .f32 0x7F800000#32
  let main_v56 : FVec F S500 .f32 := broadcastInDim S500 ![] bcast_S_S500 main_cst_22
  let main_v57 : IVec S500 1 := cmpf .olt main_v55 main_v56
  let main_c_23 : IVec S_ 1 := constantI S_ 1 1#1
  let main_v58 : IVec S_ 1 := (fun x v => Host.reduce IntOp.andi x v reducesTo_S500_S_d0 h_S_) main_v57 main_c_23
  let main_v59 : IVec S_ 1 := andi main_v54 main_v58
  let main_v60 : IVec S_ 1 := andi main_v19 main_v59
  main_v60

def fn_part2 {F : FTy → Type} [FloatOps F] (main_arg6 : FVec F S500x512 .f32) (main_arg7 : FVec F S512x500 .f32) (main_arg8 : FVec F S500 .f32) (main_arg9 : FVec F S512x500 .f32) (main_arg10 : FVec F S500 .f32) (main_v19 : IVec S_ 1) (main_v29 : IVec S_ 1) (main_v32 : IVec S512 1) : IVec S_ 1 :=
  let main_c_13 : IVec S_ 1 := constantI S_ 1 1#1
  let main_v33 : IVec S_ 1 := (fun x v => Host.reduce IntOp.andi x v reducesTo_S512_S_d0 h_S_) main_v32 main_c_13
  let main_v34 : IVec S_ 1 := andi main_v29 main_v33
  let main_v35 : FVec F S500x512 .f32 := Host.absf main_arg6
  let main_cst_14 : FVec F S_ .f32 := constant S_ .f32 0x7F800000#32
  let main_v36 : FVec F S500x512 .f32 := broadcastInDim S500x512 ![] bcast_S_S500x512 main_cst_14
  let main_v37 : IVec S500x512 1 := cmpf .olt main_v35 main_v36
  let main_c_15 : IVec S_ 1 := constantI S_ 1 1#1
  let main_v38 : IVec S_ 1 := (fun x v => Host.reduce IntOp.andi x v reducesTo_S500x512_S_d0_1 h_S_) main_v37 main_c_15
  let main_v39 : IVec S_ 1 := andi main_v34 main_v38
  let main_v40 : FVec F S512x500 .f32 := Host.absf main_arg7
  let main_cst_16 : FVec F S_ .f32 := constant S_ .f32 0x7F800000#32
  let main_v41 : FVec F S512x500 .f32 := broadcastInDim S512x500 ![] bcast_S_S512x500 main_cst_16
  let main_v42 : IVec S512x500 1 := cmpf .olt main_v40 main_v41
  let main_c_17 : IVec S_ 1 := constantI S_ 1 1#1
  let main_v43 : IVec S_ 1 := (fun x v => Host.reduce IntOp.andi x v reducesTo_S512x500_S_d0_1 h_S_) main_v42 main_c_17
  let main_v44 : IVec S_ 1 := andi main_v39 main_v43
  let main_v45 : FVec F S500 .f32 := Host.absf main_arg8
  let main_cst_18 : FVec F S_ .f32 := constant S_ .f32 0x7F800000#32
  let main_v46 : FVec F S500 .f32 := broadcastInDim S500 ![] bcast_S_S500 main_cst_18
  let main_v47 : IVec S500 1 := cmpf .olt main_v45 main_v46
  let main_c_19 : IVec S_ 1 := constantI S_ 1 1#1
  let main_v48 : IVec S_ 1 := (fun x v => Host.reduce IntOp.andi x v reducesTo_S500_S_d0 h_S_) main_v47 main_c_19
  let main_v49 : IVec S_ 1 := andi main_v44 main_v48
  fn_part3 (F := F) main_arg9 main_arg10 main_v19 main_v49

def fn_part1 {F : FTy → Type} [FloatOps F] (main_arg0 : FVec F S8x512x80 .f32) (main_arg3 : IVec S8 32) (main_arg4 : FVec F S80x512 .f32) (main_arg5 : FVec F S512 .f32) (main_arg6 : FVec F S500x512 .f32) (main_arg7 : FVec F S512x500 .f32) (main_arg8 : FVec F S500 .f32) (main_arg9 : FVec F S512x500 .f32) (main_arg10 : FVec F S500 .f32) (main_v12 : IVec S_ 1) (main_v14 : IVec S8 1) (main_v15 : IVec S8 32) : IVec S_ 1 :=
  let main_v16 : IVec S8 1 := cmpi .sle main_arg3 main_v15
  let main_v17 : IVec S8 1 := andi main_v14 main_v16
  let main_c_7 : IVec S_ 1 := constantI S_ 1 1#1
  let main_v18 : IVec S_ 1 := (fun x v => Host.reduce IntOp.andi x v reducesTo_S8_S_d0 h_S_) main_v17 main_c_7
  let main_v19 : IVec S_ 1 := andi main_v12 main_v18
  let main_v20 : FVec F S8x512x80 .f32 := Host.absf main_arg0
  let main_cst : FVec F S_ .f32 := constant S_ .f32 0x7F800000#32
  let main_v21 : FVec F S8x512x80 .f32 := broadcastInDim S8x512x80 ![] bcast_S_S8x512x80 main_cst
  let main_v22 : IVec S8x512x80 1 := cmpf .olt main_v20 main_v21
  let main_c_8 : IVec S_ 1 := constantI S_ 1 1#1
  let main_v23 : IVec S_ 1 := (fun x v => Host.reduce IntOp.andi x v reducesTo_S8x512x80_S_d0_1_2 h_S_) main_v22 main_c_8
  let main_c_9 : IVec S_ 1 := constantI S_ 1 1#1
  let main_v24 : IVec S_ 1 := andi main_c_9 main_v23
  let main_v25 : FVec F S80x512 .f32 := Host.absf main_arg4
  let main_cst_10 : FVec F S_ .f32 := constant S_ .f32 0x7F800000#32
  let main_v26 : FVec F S80x512 .f32 := broadcastInDim S80x512 ![] bcast_S_S80x512 main_cst_10
  let main_v27 : IVec S80x512 1 := cmpf .olt main_v25 main_v26
  let main_c_11 : IVec S_ 1 := constantI S_ 1 1#1
  let main_v28 : IVec S_ 1 := (fun x v => Host.reduce IntOp.andi x v reducesTo_S80x512_S_d0_1 h_S_) main_v27 main_c_11
  let main_v29 : IVec S_ 1 := andi main_v24 main_v28
  let main_v30 : FVec F S512 .f32 := Host.absf main_arg5
  let main_cst_12 : FVec F S_ .f32 := constant S_ .f32 0x7F800000#32
  let main_v31 : FVec F S512 .f32 := broadcastInDim S512 ![] bcast_S_S512 main_cst_12
  let main_v32 : IVec S512 1 := cmpf .olt main_v30 main_v31
  fn_part2 (F := F) main_arg6 main_arg7 main_arg8 main_arg9 main_arg10 main_v19 main_v29 main_v32

def fn {F : FTy → Type} [FloatOps F] (main_arg0 : FVec F S8x512x80 .f32) (main_arg1 : IVec S8 32) (main_arg2 : IVec S8x128 32) (main_arg3 : IVec S8 32) (main_arg4 : FVec F S80x512 .f32) (main_arg5 : FVec F S512 .f32) (main_arg6 : FVec F S500x512 .f32) (main_arg7 : FVec F S512x500 .f32) (main_arg8 : FVec F S500 .f32) (main_arg9 : FVec F S512x500 .f32) (main_arg10 : FVec F S500 .f32) : IVec S_ 1 :=
  let main_c : IVec S_ 32 := constantI S_ 32 1#32
  let main_v0 : IVec S8 32 := broadcastInDim S8 ![] bcast_S_S8 main_c
  let main_v1 : IVec S8 1 := cmpi .sge main_arg1 main_v0
  let main_c_0 : IVec S_ 32 := constantI S_ 32 512#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S8x128 32 := broadcastInDim S8x128 ![] bcast_S_S8x128 main_c_2
  let main_v7 : IVec S8x128 1 := cmpi .sge main_arg2 main_v6
  let main_c_3 : IVec S_ 32 := constantI S_ 32 500#32
  let main_v8 : IVec S8x128 32 := broadcastInDim S8x128 ![] bcast_S_S8x128 main_c_3
  let main_v9 : IVec S8x128 1 := cmpi .slt main_arg2 main_v8
  let main_v10 : IVec S8x128 1 := andi main_v7 main_v9
  let main_c_4 : IVec S_ 1 := constantI S_ 1 1#1
  let main_v11 : IVec S_ 1 := (fun x v => Host.reduce IntOp.andi x v reducesTo_S8x128_S_d0_1 h_S_) main_v10 main_c_4
  let main_v12 : IVec S_ 1 := andi main_v5 main_v11
  let main_c_5 : IVec S_ 32 := constantI S_ 32 0#32
  let main_v13 : IVec S8 32 := broadcastInDim S8 ![] bcast_S_S8 main_c_5
  let main_v14 : IVec S8 1 := cmpi .sge main_arg3 main_v13
  let main_c_6 : IVec S_ 32 := constantI S_ 32 128#32
  let main_v15 : IVec S8 32 := broadcastInDim S8 ![] bcast_S_S8 main_c_6
  fn_part1 (F := F) main_arg0 main_arg3 main_arg4 main_arg5 main_arg6 main_arg7 main_arg8 main_arg9 main_arg10 main_v12 main_v14 main_v15
-- ==== Kernel.lean ====
abbrev S8x512x80 : Shape := ⟨3, ![8, 512, 80]⟩
abbrev S8 : Shape := ⟨1, ![8]⟩
abbrev S8x128 : Shape := ⟨2, ![8, 128]⟩
abbrev S80x512 : Shape := ⟨2, ![80, 512]⟩
abbrev S512 : Shape := ⟨1, ![512]⟩
abbrev S500x512 : Shape := ⟨2, ![500, 512]⟩
abbrev S512x500 : Shape := ⟨2, ![512, 500]⟩
abbrev S500 : Shape := ⟨1, ![500]⟩
abbrev S_ : Shape := ⟨0, ![]⟩
abbrev S8x1 : Shape := ⟨2, ![8, 1]⟩
abbrev S8x129 : Shape := ⟨2, ![8, 129]⟩
abbrev S8x129x1 : Shape := ⟨3, ![8, 129, 1]⟩
abbrev S4096x80 : Shape := ⟨2, ![4096, 80]⟩
abbrev S1x512 : Shape := ⟨2, ![1, 512]⟩
abbrev S1x500 : Shape := ⟨2, ![1, 500]⟩
abbrev S1x1 : Shape := ⟨2, ![1, 1]⟩
abbrev S640x8x129 : Shape := ⟨3, ![640, 8, 129]⟩
abbrev S80x500 : Shape := ⟨2, ![80, 500]⟩
abbrev S4096x500 : Shape := ⟨2, ![4096, 500]⟩
abbrev S4096 : Shape := ⟨1, ![4096]⟩
abbrev S4096x1 : Shape := ⟨2, ![4096, 1]⟩
abbrev S500x500 : Shape := ⟨2, ![500, 500]⟩
abbrev S129x129 : Shape := ⟨2, ![129, 129]⟩
abbrev S1x129 : Shape := ⟨2, ![1, 129]⟩
abbrev S129x500 : Shape := ⟨2, ![129, 500]⟩
abbrev S1x129x1 : Shape := ⟨3, ![1, 129, 1]⟩
abbrev S129x1 : Shape := ⟨2, ![129, 1]⟩
abbrev S1x129x500 : Shape := ⟨3, ![1, 129, 500]⟩
abbrev S1 : Shape := ⟨1, ![1]⟩
abbrev S1x1x1 : Shape := ⟨3, ![1, 1, 1]⟩
abbrev S512x1 : Shape := ⟨2, ![512, 1]⟩
abbrev S512x129 : Shape := ⟨2, ![512, 129]⟩
abbrev S512x1x129 : Shape := ⟨3, ![512, 1, 129]⟩
abbrev S129 : Shape := ⟨1, ![129]⟩
abbrev S512x8x129 : Shape := ⟨3, ![512, 8, 129]⟩
abbrev S128x8x129 : Shape := ⟨3, ![128, 8, 129]⟩
abbrev S1x1x129 : Shape := ⟨3, ![1, 1, 129]⟩
abbrev S1x8x129 : Shape := ⟨3, ![1, 8, 129]⟩
abbrev S639x8x129 : Shape := ⟨3, ![639, 8, 129]⟩
abbrev S2x8x129 : Shape := ⟨3, ![2, 8, 129]⟩
abbrev S638x8x129 : Shape := ⟨3, ![638, 8, 129]⟩
abbrev S4x8x129 : Shape := ⟨3, ![4, 8, 129]⟩
abbrev S636x8x129 : Shape := ⟨3, ![636, 8, 129]⟩
abbrev S8x8x129 : Shape := ⟨3, ![8, 8, 129]⟩
abbrev S632x8x129 : Shape := ⟨3, ![632, 8, 129]⟩
abbrev S16x8x129 : Shape := ⟨3, ![16, 8, 129]⟩
abbrev S624x8x129 : Shape := ⟨3, ![624, 8, 129]⟩
abbrev S32x8x129 : Shape := ⟨3, ![32, 8, 129]⟩
abbrev S608x8x129 : Shape := ⟨3, ![608, 8, 129]⟩
abbrev S64x8x129 : Shape := ⟨3, ![64, 8, 129]⟩
abbrev S576x8x129 : Shape := ⟨3, ![576, 8, 129]⟩

abbrev nBuf : Space → Nat
  | .hbm => 24
  | .vmem => 15
  | .smem => 0
  | _ => 0

abbrev bufTy : (tb : Table) → Fin (tcTables nBuf tb) → BufTy
  | .hbm, ⟨0, _⟩ => ⟨S8x512x80, .f32⟩
  | .hbm, ⟨1, _⟩ => ⟨S8, .i32⟩
  | .hbm, ⟨2, _⟩ => ⟨S8x128, .i32⟩
  | .hbm, ⟨3, _⟩ => ⟨S8, .i32⟩
  | .hbm, ⟨4, _⟩ => ⟨S80x512, .f32⟩
  | .hbm, ⟨5, _⟩ => ⟨S512, .f32⟩
  | .hbm, ⟨6, _⟩ => ⟨S500x512, .f32⟩
  | .hbm, ⟨7, _⟩ => ⟨S512x500, .f32⟩
  | .hbm, ⟨8, _⟩ => ⟨S500, .f32⟩
  | .hbm, ⟨9, _⟩ => ⟨S512x500, .f32⟩
  | .hbm, ⟨10, _⟩ => ⟨S500, .f32⟩
  | .hbm, ⟨11, _⟩ => ⟨S_, .i32⟩
  | .hbm, ⟨12, _⟩ => ⟨S8x1, .i32⟩
  | .hbm, ⟨13, _⟩ => ⟨S8x129, .i32⟩
  | .hbm, ⟨14, _⟩ => ⟨S8x129x1, .i32⟩
  | .hbm, ⟨15, _⟩ => ⟨S8x129, .i32⟩
  | .hbm, ⟨16, _⟩ => ⟨S8x129x1, .i32⟩
  | .hbm, ⟨17, _⟩ => ⟨S4096x80, .f32⟩
  | .hbm, ⟨18, _⟩ => ⟨S8x1, .i32⟩
  | .hbm, ⟨19, _⟩ => ⟨S8x1, .i32⟩
  | .hbm, ⟨20, _⟩ => ⟨S1x512, .f32⟩
  | .hbm, ⟨21, _⟩ => ⟨S1x500, .f32⟩
  | .hbm, ⟨22, _⟩ => ⟨S1x500, .f32⟩
  | .hbm, ⟨23, _⟩ => ⟨S1x1, .f32⟩
  | .local _ .vmem, ⟨0, _⟩ => ⟨S4096x80, .f32⟩
  | .local _ .vmem, ⟨1, _⟩ => ⟨S8x1, .i32⟩
  | .local _ .vmem, ⟨2, _⟩ => ⟨S8x1, .i32⟩
  | .local _ .vmem, ⟨3, _⟩ => ⟨S8x129x1, .i32⟩
  | .local _ .vmem, ⟨4, _⟩ => ⟨S8x129x1, .i32⟩
  | .local _ .vmem, ⟨5, _⟩ => ⟨S80x512, .f32⟩
  | .local _ .vmem, ⟨6, _⟩ => ⟨S1x512, .f32⟩
  | .local _ .vmem, ⟨7, _⟩ => ⟨S500x512, .f32⟩
  | .local _ .vmem, ⟨8, _⟩ => ⟨S512x500, .f32⟩
  | .local _ .vmem, ⟨9, _⟩ => ⟨S1x500, .f32⟩
  | .local _ .vmem, ⟨10, _⟩ => ⟨S512x500, .f32⟩
  | .local _ .vmem, ⟨11, _⟩ => ⟨S1x500, .f32⟩
  | .local _ .vmem, ⟨12, _⟩ => ⟨S1x1, .f32⟩
  | .local _ .vmem, ⟨13, _⟩ => ⟨S640x8x129, .f32⟩
  | .local _ .vmem, ⟨14, _⟩ => ⟨S640x8x129, .f32⟩
  | _, _ => ⟨S8x512x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32_153 : BitVec 32 := 0#32
  let c640_i32 : BitVec 32 := 640#32
  let v544 : BitVec 32 := Scalar.addi c0_i32_153 c640_i32
  let c1_i32_154 : BitVec 32 := 1#32
  ⟨c0_i32_153, v544, c1_i32_154⟩
def k0_off1 (k0_t1 : Fin k0_t1_loop.trips) : Fin 3 → Nat :=
  let c0_i32_153 : BitVec 32 := 0#32
  let c1_i32_154 : BitVec 32 := 1#32
  let arg15 : BitVec 32 := Scf.iv c0_i32_153 c1_i32_154 k0_t1
  let v553 : Index := Scalar.indexCast arg15
  let c0_160 : Index := 0#32
  let c0_161 : Index := 0#32
  ![v553.toNat, 0, 0]
abbrev stage0_0 : Fin 1 → Memref sig .tc .vmem S4096x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x129x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x129x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S500x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x500 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x500 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x500 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S8x512x80 : Shape := ⟨3, ![8, 512, 80]⟩
abbrev S8 : Shape := ⟨1, ![8]⟩
abbrev S8x128 : Shape := ⟨2, ![8, 128]⟩
abbrev S80x512 : Shape := ⟨2, ![80, 512]⟩
abbrev S512 : Shape := ⟨1, ![512]⟩
abbrev S500x512 : Shape := ⟨2, ![500, 512]⟩
abbrev S512x500 : Shape := ⟨2, ![512, 500]⟩
abbrev S500 : Shape := ⟨1, ![500]⟩
abbrev S8x512x512 : Shape := ⟨3, ![8, 512, 512]⟩
abbrev S1x1x512 : Shape := ⟨3, ![1, 1, 512]⟩
abbrev S_ : Shape := ⟨0, ![]⟩
abbrev S8x129 : Shape := ⟨2, ![8, 129]⟩
abbrev S8x129x1 : Shape := ⟨3, ![8, 129, 1]⟩
abbrev S8x129x512 : Shape := ⟨3, ![8, 129, 512]⟩
abbrev S8x512x500 : Shape := ⟨3, ![8, 512, 500]⟩
abbrev S1x1x500 : Shape := ⟨3, ![1, 1, 500]⟩
abbrev S8x129x500 : Shape := ⟨3, ![8, 129, 500]⟩
abbrev S129 : Shape := ⟨1, ![129]⟩
abbrev S1x129 : Shape := ⟨2, ![1, 129]⟩
abbrev S8x1 : Shape := ⟨2, ![8, 1]⟩
abbrev S8x512x1x500 : Shape := ⟨4, ![8, 512, 1, 500]⟩
abbrev S8x1x129x500 : Shape := ⟨4, ![8, 1, 129, 500]⟩
abbrev S8x512x129x500 : Shape := ⟨4, ![8, 512, 129, 500]⟩
abbrev S8x512x129 : Shape := ⟨3, ![8, 512, 129]⟩
abbrev S8x512x129x1 : Shape := ⟨4, ![8, 512, 129, 1]⟩
abbrev S8x1x129x1 : Shape := ⟨4, ![8, 1, 129, 1]⟩
abbrev S8x512x129x1x1 : Shape := ⟨5, ![8, 512, 129, 1, 1]⟩
abbrev S8x1x129 : Shape := ⟨3, ![8, 1, 129]⟩
abbrev S8x511x129 : Shape := ⟨3, ![8, 511, 129]⟩
abbrev S8x512x128 : Shape := ⟨3, ![8, 512, 128]⟩
abbrev S1x512x1 : Shape := ⟨3, ![1, 512, 1]⟩
abbrev S8x1x1 : Shape := ⟨3, ![8, 1, 1]⟩
abbrev S8x512x1 : Shape := ⟨3, ![8, 512, 1]⟩
abbrev S1x1x129 : Shape := ⟨3, ![1, 1, 129]⟩
abbrev S1x8 : Shape := ⟨2, ![1, 8]⟩
abbrev S128x8 : Shape := ⟨2, ![128, 8]⟩
abbrev S129x8 : Shape := ⟨2, ![129, 8]⟩
abbrev S8x66048 : Shape := ⟨2, ![8, 66048]⟩
abbrev S66048x8 : Shape := ⟨2, ![66048, 8]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S8x512x80, .f32⟩
  | 1 => ⟨S8, .i32⟩
  | 2 => ⟨S8x128, .i32⟩
  | 3 => ⟨S8, .i32⟩
  | 4 => ⟨S80x512, .f32⟩
  | 5 => ⟨S512, .f32⟩
  | 6 => ⟨S500x512, .f32⟩
  | 7 => ⟨S512x500, .f32⟩
  | 8 => ⟨S500, .f32⟩
  | 9 => ⟨S512x500, .f32⟩
  | 10 => ⟨S500, .f32⟩
  | 11 => ⟨S8x512x512, .f32⟩
  | 12 => ⟨S1x1x512, .f32⟩
  | 13 => ⟨S8x512x512, .f32⟩
  | 14 => ⟨S8x512x512, .f32⟩
  | 15 => ⟨S_, .i32⟩
  | 16 => ⟨S8x129, .i32⟩
  | 17 => ⟨S_, .i32⟩
  | 18 => ⟨S8x129, .i32⟩
  | 19 => ⟨S8x129, .i1⟩
  | 20 => ⟨S_, .i32⟩
  | 21 => ⟨S8x129, .i32⟩
  | 22 => ⟨S8x129, .i32⟩
  | 23 => ⟨S8x129, .i32⟩
  | 24 => ⟨S8x129x1, .i32⟩
  | 25 => ⟨S8x129x512, .f32⟩
  | 26 => ⟨S8x512x500, .f32⟩
  | 27 => ⟨S1x1x500, .f32⟩
  | 28 => ⟨S8x512x500, .f32⟩
  | 29 => ⟨S8x512x500, .f32⟩
  | 30 => ⟨S8x129x500, .f32⟩
  | 31 => ⟨S1x1x500, .f32⟩
  | 32 => ⟨S8x129x500, .f32⟩
  | 33 => ⟨S8x129x500, .f32⟩
  | 34 => ⟨S_, .i32⟩
  | 35 => ⟨S8x129, .i32⟩
  | 36 => ⟨S129, .i32⟩
  | 37 => ⟨S1x129, .i32⟩
  | 38 => ⟨S8x1, .i32⟩
  | 39 => ⟨S8x129, .i32⟩
  | 40 => ⟨S8x129, .i32⟩
  | 41 => ⟨S8x129, .i1⟩
  | 42 => ⟨S8x512x1x500, .f32⟩
  | 43 => ⟨S8x1x129x500, .f32⟩
  | 44 => ⟨S8x512x129x500, .f32⟩
  | 45 => ⟨S8x512x129x500, .f32⟩
  | 46 => ⟨S8x512x129x500, .f32⟩
  | 47 => ⟨S_, .f32⟩
  | 48 => ⟨S8x512x129, .f32⟩
  | 49 => ⟨S8x512x129x1, .f32⟩
  | 50 => ⟨S8x512x129x500, .f32⟩
  | 51 => ⟨S8x512x129x500, .f32⟩
  | 52 => ⟨S8x512x129x500, .f32⟩
  | 53 => ⟨S_, .f32⟩
  | 54 => ⟨S8x512x129, .f32⟩
  | 55 => ⟨S8x512x129x1, .f32⟩
  | 56 => ⟨S8x512x129x1, .f32⟩
  | 57 => ⟨S8x512x129x500, .f32⟩
  | 58 => ⟨S8x512x129x500, .f32⟩
  | 59 => ⟨S8x512x129x1, .f32⟩
  | 60 => ⟨S8x512x129, .f32⟩
  | 61 => ⟨S8x1x129x1, .i32⟩
  | 62 => ⟨S8x512x129x1, .i32⟩
  | 63 => ⟨S_, .i32⟩
  | 64 => ⟨S8x512x129x1, .i32⟩
  | 65 => ⟨S8x512x129x1, .i1⟩
  | 66 => ⟨S_, .i32⟩
  | 67 => ⟨S8x512x129x1, .i32⟩
  | 68 => ⟨S8x512x129x1, .i32⟩
  | 69 => ⟨S8x512x129x1, .i32⟩
  | 70 => ⟨S8x512x129x1x1, .i32⟩
  | 71 => ⟨S8x512x129x1, .f32⟩
  | 72 => ⟨S8x512x129, .f32⟩
  | 73 => ⟨S8x1x129, .i1⟩
  | 74 => ⟨S8x512x129, .i1⟩
  | 75 => ⟨S_, .f32⟩
  | 76 => ⟨S8x512x129, .f32⟩
  | 77 => ⟨S8x512x129, .f32⟩
  | 78 => ⟨S8x511x129, .f32⟩
  | 79 => ⟨S_, .f32⟩
  | 80 => ⟨S8x512x129, .f32⟩
  | 81 => ⟨S8x512x128, .f32⟩
  | 82 => ⟨S_, .f32⟩
  | 83 => ⟨S8x512x129, .f32⟩
  | 84 => ⟨S512, .i32⟩
  | 85 => ⟨S1x512x1, .i32⟩
  | 86 => ⟨S8x1x1, .i32⟩
  | 87 => ⟨S_, .i32⟩
  | 88 => ⟨S8x1x1, .i32⟩
  | 89 => ⟨S8x1x1, .i32⟩
  | 90 => ⟨S8x512x1, .i32⟩
  | 91 => ⟨S8x512x1, .i32⟩
  | 92 => ⟨S8x512x1, .i1⟩
  | 93 => ⟨S1x1x129, .i32⟩
  | 94 => ⟨S8x1x1, .i32⟩
  | 95 => ⟨S8x1x129, .i32⟩
  | 96 => ⟨S8x1x129, .i32⟩
  | 97 => ⟨S8x1x129, .i1⟩
  | 98 => ⟨S8x512x129, .i1⟩
  | 99 => ⟨S8x512x129, .i1⟩
  | 100 => ⟨S8x512x129, .i1⟩
  | 101 => ⟨S_, .f32⟩
  | 102 => ⟨S1x8, .f32⟩
  | 103 => ⟨S_, .f32⟩
  | 104 => ⟨S128x8, .f32⟩
  | 105 => ⟨S128x8, .f32⟩
  | 106 => ⟨S129x8, .f32⟩
  | 107 => ⟨S_, .f32⟩
  | 108 => ⟨S8, .f32⟩
  | 109 => ⟨S8x66048, .f32⟩
  | 110 => ⟨S66048x8, .f32⟩
  | 111 => ⟨S8x66048, .f32⟩
  | 112 => ⟨S66048x8, .f32⟩
  | 113 => ⟨S8x66048, .f32⟩
  | 114 => ⟨S66048x8, .f32⟩
  | 115 => ⟨S8x66048, .i1⟩
  | 116 => ⟨S66048x8, .i1⟩
  | 117 => ⟨S_, .i32⟩
  | 118 => ⟨S66048x8, .f32⟩
  | 119 => ⟨S66048x8, .f32⟩
  | 120 => ⟨S66048x8, .f32⟩
  | 121 => ⟨S66048x8, .i1⟩
  | 122 => ⟨S_, .i32⟩
  | 123 => ⟨S129x8, .f32⟩
  | 124 => ⟨S8, .f32⟩
  | 125 => ⟨S_, .i32⟩
  | 126 => ⟨S_, .i1⟩
  | 127 => ⟨S_, .i32⟩
  | _ => ⟨S8x512x80, .f32⟩

abbrev hbmTy0_1 (i : Nat) : BufTy := match i % 128 with
  | 0 => ⟨S1x8, .f32⟩
  | 1 => ⟨S8, .f32⟩
  | 2 => ⟨S_, .i32⟩
  | 3 => ⟨S1x8, .f32⟩
  | 4 => ⟨S8, .f32⟩
  | 5 => ⟨S_, .i32⟩
  | 6 => ⟨S1x8, .f32⟩
  | 7 => ⟨S8, .f32⟩
  | 8 => ⟨S_, .i32⟩
  | 9 => ⟨S1x8, .i1⟩
  | 10 => ⟨S8, .i1⟩
  | 11 => ⟨S1x8, .f32⟩
  | 12 => ⟨S8, .f32⟩
  | 13 => ⟨S8, .f32⟩
  | 14 => ⟨S1x8, .f32⟩
  | 15 => ⟨S8, .f32⟩
  | 16 => ⟨S8, .f32⟩
  | 17 => ⟨S8, .f32⟩
  | 18 => ⟨S8, .f32⟩
  | 19 => ⟨S8, .i1⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S128x8, .f32⟩
  | 28 => ⟨S1x8, .f32⟩
  | 29 => ⟨S129x8, .f32⟩
  | 30 => ⟨S8, .f32⟩
  | 31 => ⟨S8, .f32⟩
  | 32 => ⟨S_, .i32⟩
  | 33 => ⟨S_, .i32⟩
  | 34 => ⟨S_, .f32⟩
  | 35 => ⟨S_, .f32⟩
  | 36 => ⟨S1x1, .f32⟩
  | 37 => ⟨S1x1, .f32⟩
  | _ => ⟨S8x512x80, .f32⟩

abbrev hbmTy (i : Nat) : BufTy := match i / 128 with
  | 0 => hbmTy0_0 i
  | 1 => hbmTy0_1 i
  | _ => ⟨S8x512x80, .f32⟩

abbrev bufTy : (tb : Table) → Fin (tcTables nBuf tb) → BufTy
  | .hbm, ⟨i, _⟩ => hbmTy i
  | _, _ => ⟨S8x512x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_8 : Ref sig .tc := ⟨.hbm, 101, rfl⟩
abbrev main_v72 : Ref sig .tc := ⟨.hbm, 102, rfl⟩
abbrev main_cst_9 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_11 : Ref sig .tc := ⟨.hbm, 117, rfl⟩
abbrev main_v85_0 : Ref sig .tc := ⟨.hbm, 118, rfl⟩
abbrev main_v85_1 : Ref sig .tc := ⟨.hbm, 119, rfl⟩
abbrev main_v85_2 : Ref sig .tc := ⟨.hbm, 120, rfl⟩
abbrev main_v85_3 : Ref sig .tc := ⟨.hbm, 121, rfl⟩
abbrev main_v85_4 : Ref sig .tc := ⟨.hbm, 122, rfl⟩
abbrev main_v85_5 : Ref sig .tc := ⟨.hbm, 123, rfl⟩
abbrev main_v85_6 : Ref sig .tc := ⟨.hbm, 124, rfl⟩
abbrev main_while0c_c_19 : Ref sig .tc := ⟨.hbm, 125, rfl⟩
abbrev main_while0c_v89 : Ref sig .tc := ⟨.hbm, 126, rfl⟩
abbrev main_while0b_call1_c : Ref sig .tc := ⟨.hbm, 127, rfl⟩
abbrev main_while0b_call1_v0 : Ref sig .tc := ⟨.hbm, 128, rfl⟩
abbrev main_while0b_v89 : Ref sig .tc := ⟨.hbm, 129, rfl⟩
abbrev main_while0b_call2_c : Ref sig .tc := ⟨.hbm, 130, rfl⟩
abbrev main_while0b_call2_v0 : Ref sig .tc := ⟨.hbm, 131, rfl⟩
abbrev main_while0b_v90 : Ref sig .tc := ⟨.hbm, 132, rfl⟩
abbrev main_while0b_call3_c : Ref sig .tc := ⟨.hbm, 133, rfl⟩
abbrev main_while0b_call3_v0 : Ref sig .tc := ⟨.hbm, 134, rfl⟩
abbrev main_while0b_v91 : Ref sig .tc := ⟨.hbm, 135, rfl⟩
abbrev main_while0b_call4_c : Ref sig .tc := ⟨.hbm, 136, rfl⟩
abbrev main_while0b_call4_v0 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_c_19 : Ref sig .tc := ⟨.hbm, 160, rfl⟩
abbrev main_while0b_v114 : Ref sig .tc := ⟨.hbm, 161, rfl⟩
abbrev main_cst_12 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩

abbrev nD : Nat := 1
abbrev τ : Topo := Topo.v7x

variable {F : FTy → Type} [FloatOps F]

abbrev main_while0_count : Scf.Loop 32 := ⟨0#32, 66048#32, 1#32⟩
-- ==== Proof.Tower.lean ====
/- The kernel's one result as one term over its window blocks, in a few words of our own: per sequence `n` the same
   row of payloads at offset `512 n`, the shears one operation applied eight times, the sweep a recursion on the
   diagonal. Everything here holds for every float carrier; the payloads' values are read in KernelValue.lean. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 65536
set_option maxHeartbeats 100000

noncomputable section

namespace Cert.Proof.Tower

open Idealize.ShloMosaic Idealize.ShloMosaic.TcCoe Idealize.SL.Sem
open Cert.KernelIdeal Cert.KernelIdeal.Gen
open Idealize.ShloMosaic.Pipeline (Dat)

variable {F : FTy → Type} [FloatOps F] [Named F]

/-! ## One sequence's rows -/

/-- The 500 class numbers in a row. -/
abbrev classes : IVec S1x500 32 := iota .tc S1x500 32 [1] iota_S1x500_d1_w32

/-- The 500 class numbers in each of 129 rows. -/
abbrev classRows : IVec S129x500 32 := iota .tc S129x500 32 [1] iota_S129x500_d1_w32

/-- The 129 label positions. -/
abbrev places : IVec S1x1x129 32 := iota .tc S1x1x129 32 [2] iota_S1x1x129_d2_w32

/-- Sequence `n`'s 512 frames of the class scores lie in the stacked table. -/
theorem slices500 : ∀ n : Fin 8, S4096x500.Slices ![512 * n.val, 0] S512x500 := by decide

/-- Sequence `n`'s 512 frames of the row maxima lie in the stacked column. -/
theorem slices1 : ∀ n : Fin 8, S4096x1.Slices ![512 * n.val, 0] S512x1 := by decide

/-- The normalizer of every cell of sequence `n`. -/
def norm (amx : FVec F S4096x1 .f32) (eam : FVec F S4096x500 .f32) (P : FVec F S500x500 .f32) (n : Fin 8)
    (v : Vec F S1x129x1 .i32) : FVec F S512x129 .f32 :=
  addf (log (matmul dot_S512x500_S129x500_S512x129_1_1_0_0_n_n (some .fp32)
      (extractStridedSlice S512x500 ![512 * n.val, 0] eam (slices500 n))
      (exp (subf (k0_pay15 P v) (broadcast S129x500 (k0_pay16 P v)))) (constant S512x129 .f32 0x00000000#32)))
    (broadcastTo S512x129 (extractStridedSlice S512x1 ![512 * n.val, 0] amx (slices1 n)) broadcasts_S512x1_S512x129)

/-- The blank scores of sequence `n`, up to the label's own part. -/
def blankRow (am : FVec F S4096x500 .f32) (amx : FVec F S4096x1 .f32) (eam : FVec F S4096x500 .f32)
    (P : FVec F S500x500 .f32) (n : Fin 8) (v : Vec F S1x129x1 .i32) : FVec F S512x1x129 .f32 :=
  shapeCast S512x1x129 (subf (broadcastTo S512x129
    (extractStridedSlice S512x1 ![0, 0] (extractStridedSlice S512x500 ![512 * n.val, 0] am (slices500 n))
      slices_S512x500_o0_0_S512x1) broadcasts_S512x1_S512x129) (norm amx eam P n v)) shapeCasts_S512x129_S512x1x129

/-- The label scores of sequence `n`, up to the label's own part. -/
def labelRow (am : FVec F S4096x500 .f32) (amx : FVec F S4096x1 .f32) (eam : FVec F S4096x500 .f32)
    (P : FVec F S500x500 .f32) (n : Fin 8) (v w : Vec F S1x129x1 .i32) : FVec F S512x1x129 .f32 :=
  shapeCast S512x1x129 (subf (matmul dot_S512x500_S129x500_S512x129_1_1_0_0_n_n (some .fp32)
    (extractStridedSlice S512x500 ![512 * n.val, 0] am (slices500 n)) (k0_pay14 w)
    (constant S512x129 .f32 0x00000000#32)) (norm amx eam P n v)) shapeCasts_S512x129_S512x1x129

/-- The label part of the blank scores. -/
def blankPart (P : FVec F S500x500 .f32) (v : Vec F S1x129x1 .i32) : FVec F S1x129 .f32 :=
  k0_pay21 P classes 0#32 v

/-- The label part of the label scores. -/
def labelPart (P : FVec F S500x500 .f32) (v w : Vec F S1x129x1 .i32) : FVec F S1x129 .f32 :=
  k0_pay23 (k0_pay12 (F := F)) (k0_pay13 (F := F)) (k0_pay22 P v w)

/-- The largest label part of the whole sequence. -/
def topPart (P : FVec F S500x500 .f32) (v : Vec F S1x129x1 .i32) : FVec F S1x1 .f32 := k0_pay24 (k0_pay16 P v)

/-! ## The tables -/

/-- Eight sequences' rows stacked, with 128 frames of −∞ after them. -/
def stack (r : Fin 8 → FVec F S512x1x129 .f32) : FVec F S640x8x129 .f32 :=
  concatenate S640x8x129 0 [⟨S512x8x129, concatenate S512x8x129 1 [⟨S512x1x129, r 0⟩, ⟨S512x1x129, r 1⟩,
    ⟨S512x1x129, r 2⟩, ⟨S512x1x129, r 3⟩, ⟨S512x1x129, r 4⟩, ⟨S512x1x129, r 5⟩, ⟨S512x1x129, r 6⟩, ⟨S512x1x129, r 7⟩]
    concatenates_S512x1x129_S512x1x129_S512x1x129_S512x1x129_S512x1x129_S512x1x129_S512x1x129_S512x1x129_S512x8x129_d1⟩,
    ⟨S128x8x129, k0_pay99 (F := F)⟩] concatenates_S512x8x129_S128x8x129_S640x8x129_d0

/-- Eight label parts stacked. -/
def stackParts (r : Fin 8 → FVec F S1x129 .f32) : FVec F S8x129 .f32 :=
  concatenate S8x129 0 [⟨S1x129, r 0⟩, ⟨S1x129, r 1⟩, ⟨S1x129, r 2⟩, ⟨S1x129, r 3⟩, ⟨S1x129, r 4⟩, ⟨S1x129, r 5⟩,
    ⟨S1x129, r 6⟩, ⟨S1x129, r 7⟩]
    concatenates_S1x129_S1x129_S1x129_S1x129_S1x129_S1x129_S1x129_S1x129_S8x129_d0

/-- Eight single values stacked. -/
def stackTops (r : Fin 8 → FVec F S1x1 .f32) : FVec F S8x1 .f32 :=
  concatenate S8x1 0 [⟨S1x1, r 0⟩, ⟨S1x1, r 1⟩, ⟨S1x1, r 2⟩, ⟨S1x1, r 3⟩, ⟨S1x1, r 4⟩, ⟨S1x1, r 5⟩, ⟨S1x1, r 6⟩,
    ⟨S1x1, r 7⟩] concatenates_S1x1_S1x1_S1x1_S1x1_S1x1_S1x1_S1x1_S1x1_S8x1_d0

/-- The places whose number has the bit `b`. -/
def bit (b : BitVec 32) : IVec S1x1x129 1 := cmpi .ne (andi places (broadcast S1x1x129 b)) (broadcast S1x1x129 0#32)

/-- One shear: the places of `mask` move down by the fill's height, the fill above them. -/
def shear (sf st : Shape) (hs : S640x8x129.Slices ![0, 0, 0] st) (hc : Shape.Concatenates [sf, st] S640x8x129 0)
    (b : BitVec 32) (X : FVec F S640x8x129 .f32) : FVec F S640x8x129 .f32 :=
  select (broadcastTo S640x8x129 (shapeCast S1x1x129 (bit b) shapeCasts_S1x1x129_S1x1x129) broadcasts_S1x1x129_S640x8x129)
    (concatenate S640x8x129 0 [⟨sf, broadcast sf (Named.named κ "neg" 0xF149F2CA#32)⟩,
      ⟨st, extractStridedSlice st ![0, 0, 0] X hs⟩] hc) X

/-- All eight shears: place `u` moves down by `u`. -/
def sheared (X : FVec F S640x8x129 .f32) : FVec F S640x8x129 .f32 :=
  shear S128x8x129 S512x8x129 slices_S640x8x129_o0_0_0_S512x8x129 concatenates_S128x8x129_S512x8x129_S640x8x129_d0 128#32
    (shear S64x8x129 S576x8x129 slices_S640x8x129_o0_0_0_S576x8x129 concatenates_S64x8x129_S576x8x129_S640x8x129_d0 64#32
    (shear S32x8x129 S608x8x129 slices_S640x8x129_o0_0_0_S608x8x129 concatenates_S32x8x129_S608x8x129_S640x8x129_d0 32#32
    (shear S16x8x129 S624x8x129 slices_S640x8x129_o0_0_0_S624x8x129 concatenates_S16x8x129_S624x8x129_S640x8x129_d0 16#32
    (shear S8x8x129 S632x8x129 slices_S640x8x129_o0_0_0_S632x8x129 concatenates_S8x8x129_S632x8x129_S640x8x129_d0 8#32
    (shear S4x8x129 S636x8x129 slices_S640x8x129_o0_0_0_S636x8x129 concatenates_S4x8x129_S636x8x129_S640x8x129_d0 4#32
    (shear S2x8x129 S638x8x129 slices_S640x8x129_o0_0_0_S638x8x129 concatenates_S2x8x129_S638x8x129_S640x8x129_d0 2#32
    (shear S1x8x129 S639x8x129 slices_S640x8x129_o0_0_0_S639x8x129 concatenates_S1x8x129_S639x8x129_S640x8x129_d0 1#32
    X)))))))

/-- The blank scores by diagonal. -/
def tableB (l0 : FVec F S8x129 .f32) (bm : FVec F S8x1 .f32) (X : FVec F S640x8x129 .f32) : FVec F S640x8x129 .f32 :=
  shapeCast S640x8x129 (addf X (broadcastTo S640x8x129 (shapeCast S1x8x129
    (subf l0 (broadcastTo S8x129 bm broadcasts_S8x1_S8x129)) shapeCasts_S8x129_S1x8x129) broadcasts_S1x8x129_S640x8x129))
    shapeCasts_S640x8x129_S640x8x129

/-- The label scores by diagonal, −∞ at and past the sequence's own label count. -/
def tableL (yl : IVec S8x1 32) (ly : FVec F S8x129 .f32) (bm : FVec F S8x1 .f32) (X : FVec F S640x8x129 .f32) :
    FVec F S640x8x129 .f32 :=
  shapeCast S640x8x129 (select (broadcastTo S640x8x129 (shapeCast S1x8x129 (shapeCast S1x8x129
      (cmpi .slt (iota .tc S8x129 32 [1] iota_S8x129_d1_w32) (broadcastTo S8x129 yl broadcasts_S8x1_S8x129))
      shapeCasts_S8x129_S1x8x129) shapeCasts_S1x8x129_S1x8x129) broadcasts_S1x8x129_S640x8x129)
    (addf X (broadcastTo S640x8x129 (shapeCast S1x8x129
      (subf ly (broadcastTo S8x129 bm broadcasts_S8x1_S8x129)) shapeCasts_S8x129_S1x8x129) broadcasts_S1x8x129_S640x8x129))
    (broadcast S640x8x129 (Named.named κ "neg" 0xF149F2CA#32))) shapeCasts_S640x8x129_S640x8x129

/-! ## The kernel's payloads are these rows -/

/-- Sequence 0: the blank scores. -/
theorem blank0 (am : FVec F S4096x500 .f32) (amx : FVec F S4096x1 .f32) (eam : FVec F S4096x500 .f32) (P : FVec F S500x500 .f32) (v : Vec F S1x129x1 .i32) : k0_pay19 am amx eam P v = blankRow am amx eam P 0 v := rfl

/-- Sequence 0: the label scores. -/
theorem label0 (am : FVec F S4096x500 .f32) (amx : FVec F S4096x1 .f32) (eam : FVec F S4096x500 .f32) (P : FVec F S500x500 .f32) (v w : Vec F S1x129x1 .i32) : k0_pay20 am amx eam P v w = labelRow am amx eam P 0 v w := rfl

/-- Sequence 0: the label part of the blank scores. -/
theorem bpart0 (P : FVec F S500x500 .f32) (v : Vec F S1x129x1 .i32) : k0_pay21 P classes 0#32 v = blankPart P v := rfl

/-- Sequence 0: the label part of the label scores. -/
theorem lpart0 (P : FVec F S500x500 .f32) (v w : Vec F S1x129x1 .i32) : k0_pay23 (k0_pay12 (F := F)) (k0_pay13 (F := F)) (k0_pay22 P v w) = labelPart P v w := rfl

/-- Sequence 0: the largest label part. -/
theorem top0 (P : FVec F S500x500 .f32) (v : Vec F S1x129x1 .i32) : k0_pay24 (k0_pay16 P v) = topPart P v := rfl

/-- Sequence 1: the blank scores. -/
theorem blank1 (am : FVec F S4096x500 .f32) (amx : FVec F S4096x1 .f32) (eam : FVec F S4096x500 .f32) (P : FVec F S500x500 .f32) (v : Vec F S1x129x1 .i32) : k0_pay30 am amx eam P classRows v = blankRow am amx eam P 1 v := rfl

/-- Sequence 1: the label scores. -/
theorem label1 (am : FVec F S4096x500 .f32) (amx : FVec F S4096x1 .f32) (eam : FVec F S4096x500 .f32) (P : FVec F S500x500 .f32) (v w : Vec F S1x129x1 .i32) : k0_pay31 am amx eam P classRows v w = labelRow am amx eam P 1 v w := rfl

/-- Sequence 1: the label part of the blank scores. -/
theorem bpart1 (P : FVec F S500x500 .f32) (v : Vec F S1x129x1 .i32) : k0_pay32 P (k0_pay11 (F := F) classes 0#32) classRows v = blankPart P v := rfl

/-- Sequence 1: the label part of the label scores. -/
theorem lpart1 (P : FVec F S500x500 .f32) (v w : Vec F S1x129x1 .i32) : k0_pay34 (k0_pay13 (F := F)) (k0_pay33 P (k0_pay12 (F := F)) classRows v w) (constant S1x129 .f32 0x00000000#32) = labelPart P v w := rfl

/-- Sequence 1: the largest label part. -/
theorem top1 (P : FVec F S500x500 .f32) (v : Vec F S1x129x1 .i32) : k0_pay35 (k0_pay27 P classRows v) = topPart P v := rfl

/-- Sequence 2: the blank scores. -/
theorem blank2 (am : FVec F S4096x500 .f32) (amx : FVec F S4096x1 .f32) (eam : FVec F S4096x500 .f32) (P : FVec F S500x500 .f32) (v : Vec F S1x129x1 .i32) : k0_pay41 am amx eam P classRows v = blankRow am amx eam P 2 v := rfl

/-- Sequence 2: the label scores. -/
theorem label2 (am : FVec F S4096x500 .f32) (amx : FVec F S4096x1 .f32) (eam : FVec F S4096x500 .f32) (P : FVec F S500x500 .f32) (v w : Vec F S1x129x1 .i32) : k0_pay42 am amx eam P classRows v w = labelRow am amx eam P 2 v w := rfl

/-- Sequence 2: the label part of the blank scores. -/
theorem bpart2 (P : FVec F S500x500 .f32) (v : Vec F S1x129x1 .i32) : k0_pay43 P (k0_pay11 (F := F) classes 0#32) classRows v = blankPart P v := rfl

/-- Sequence 2: the label part of the label scores. -/
theorem lpart2 (P : FVec F S500x500 .f32) (v w : Vec F S1x129x1 .i32) : k0_pay44 P (k0_pay12 (F := F)) (k0_pay13 (F := F)) classRows v w = labelPart P v w := rfl

/-- Sequence 2: the largest label part. -/
theorem top2 (P : FVec F S500x500 .f32) (v : Vec F S1x129x1 .i32) : k0_pay45 P classRows v = topPart P v := rfl

/-- Sequence 3: the blank scores. -/
theorem blank3 (am : FVec F S4096x500 .f32) (amx : FVec F S4096x1 .f32) (eam : FVec F S4096x500 .f32) (P : FVec F S500x500 .f32) (v : Vec F S1x129x1 .i32) : k0_pay51 am amx eam P classRows v = blankRow am amx eam P 3 v := rfl

/-- Sequence 3: the label scores. -/
theorem label3 (am : FVec F S4096x500 .f32) (amx : FVec F S4096x1 .f32) (eam : FVec F S4096x500 .f32) (P : FVec F S500x500 .f32) (v w : Vec F S1x129x1 .i32) : k0_pay52 am amx eam P classRows v w = labelRow am amx eam P 3 v w := rfl

/-- Sequence 3: the label part of the blank scores. -/
theorem bpart3 (P : FVec F S500x500 .f32) (v : Vec F S1x129x1 .i32) : k0_pay53 P (k0_pay11 (F := F) classes 0#32) classRows v = blankPart P v := rfl

/-- Sequence 3: the label part of the label scores. -/
theorem lpart3 (P : FVec F S500x500 .f32) (v w : Vec F S1x129x1 .i32) : k0_pay54 P (k0_pay12 (F := F)) (k0_pay13 (F := F)) classRows v w = labelPart P v w := rfl

/-- Sequence 3: the largest label part. -/
theorem top3 (P : FVec F S500x500 .f32) (v : Vec F S1x129x1 .i32) : k0_pay55 P classRows v = topPart P v := rfl

/-- Sequence 4: the blank scores. -/
theorem blank4 (am : FVec F S4096x500 .f32) (amx : FVec F S4096x1 .f32) (eam : FVec F S4096x500 .f32) (P : FVec F S500x500 .f32) (v : Vec F S1x129x1 .i32) : k0_pay62 am amx eam P classRows (k0_pay56 v) = blankRow am amx eam P 4 v := rfl

/-- Sequence 4: the label scores. -/
theorem label4 (am : FVec F S4096x500 .f32) (amx : FVec F S4096x1 .f32) (eam : FVec F S4096x500 .f32) (P : FVec F S500x500 .f32) (v w : Vec F S1x129x1 .i32) : k0_pay63 am amx eam P classRows (k0_pay56 v) w = labelRow am amx eam P 4 v w := rfl

/-- Sequence 4: the label part of the blank scores. -/
theorem bpart4 (P : FVec F S500x500 .f32) (v : Vec F S1x129x1 .i32) : k0_pay64 P (k0_pay11 (F := F) classes 0#32) classRows (k0_pay56 v) = blankPart P v := rfl

/-- Sequence 4: the label part of the label scores. -/
theorem lpart4 (P : FVec F S500x500 .f32) (v w : Vec F S1x129x1 .i32) : k0_pay65 P (k0_pay12 (F := F)) (k0_pay13 (F := F)) classRows (k0_pay56 v) w = labelPart P v w := rfl

/-- Sequence 4: the largest label part. -/
theorem top4 (P : FVec F S500x500 .f32) (v : Vec F S1x129x1 .i32) : k0_pay66 P classRows (k0_pay56 v) = topPart P v := rfl

/-- Sequence 5: the blank scores. -/
theorem blank5 (am : FVec F S4096x500 .f32) (amx : FVec F S4096x1 .f32) (eam : FVec F S4096x500 .f32) (P : FVec F S500x500 .f32) (v : Vec F S1x129x1 .i32) : k0_pay74 am amx eam P (k0_pay68 classRows v) = blankRow am amx eam P 5 v := rfl

/-- Sequence 5: the label scores. -/
theorem label5 (am : FVec F S4096x500 .f32) (amx : FVec F S4096x1 .f32) (eam : FVec F S4096x500 .f32) (P : FVec F S500x500 .f32) (v w : Vec F S1x129x1 .i32) : k0_pay75 am amx eam P classRows (k0_pay67 w) (k0_pay68 classRows v) = labelRow am amx eam P 5 v w := rfl

/-- Sequence 5: the label part of the blank scores. -/
theorem bpart5 (P : FVec F S500x500 .f32) (v : Vec F S1x129x1 .i32) : k0_pay76 P (k0_pay11 (F := F) classes 0#32) (k0_pay68 classRows v) = blankPart P v := rfl

/-- Sequence 5: the label part of the label scores. -/
theorem lpart5 (P : FVec F S500x500 .f32) (v w : Vec F S1x129x1 .i32) : k0_pay77 P (k0_pay12 (F := F)) (k0_pay13 (F := F)) classRows (k0_pay67 w) (k0_pay68 classRows v) = labelPart P v w := rfl

/-- Sequence 5: the largest label part. -/
theorem top5 (P : FVec F S500x500 .f32) (v : Vec F S1x129x1 .i32) : k0_pay78 P (k0_pay68 classRows v) = topPart P v := rfl

/-- Sequence 6: the blank scores. -/
theorem blank6 (am : FVec F S4096x500 .f32) (amx : FVec F S4096x1 .f32) (eam : FVec F S4096x500 .f32) (P : FVec F S500x500 .f32) (v : Vec F S1x129x1 .i32) : k0_pay85 am amx eam P (k0_pay79 classRows v) = blankRow am amx eam P 6 v := rfl

/-- Sequence 6: the label scores. -/
theorem label6 (am : FVec F S4096x500 .f32) (amx : FVec F S4096x1 .f32) (eam : FVec F S4096x500 .f32) (P : FVec F S500x500 .f32) (v w : Vec F S1x129x1 .i32) : k0_pay86 am amx eam P (k0_pay79 classRows v) (k0_pay80 classRows w) = labelRow am amx eam P 6 v w := rfl

/-- Sequence 6: the label part of the blank scores. -/
theorem bpart6 (P : FVec F S500x500 .f32) (v : Vec F S1x129x1 .i32) : k0_pay87 P (k0_pay11 (F := F) classes 0#32) (k0_pay79 classRows v) = blankPart P v := rfl

/-- Sequence 6: the label part of the label scores. -/
theorem lpart6 (P : FVec F S500x500 .f32) (v w : Vec F S1x129x1 .i32) : k0_pay88 P (k0_pay12 (F := F)) (k0_pay13 (F := F)) (k0_pay79 classRows v) (k0_pay80 classRows w) = labelPart P v w := rfl

/-- Sequence 6: the largest label part. -/
theorem top6 (P : FVec F S500x500 .f32) (v : Vec F S1x129x1 .i32) : k0_pay89 P (k0_pay79 classRows v) = topPart P v := rfl

/-- The blank scores stacked and sheared by the first bit. -/
theorem stackB (am : FVec F S4096x500 .f32) (amx : FVec F S4096x1 .f32) (eam : FVec F S4096x500 .f32) (P : FVec F S500x500 .f32) (r0 r1 r2 r3 r4 r5 r6 : FVec F S512x1x129 .f32) (v : Vec F S1x129x1 .i32) : k0_pay102 am amx eam r0 r1 r2 r3 r4 r5 r6 (k0_pay91 P classRows v) (k0_pay92 P classRows v) = shear S1x8x129 S639x8x129 slices_S640x8x129_o0_0_0_S639x8x129 concatenates_S1x8x129_S639x8x129_S640x8x129_d0 1#32 (stack ![r0, r1, r2, r3, r4, r5, r6, blankRow am amx eam P 7 v]) := rfl

/-- The label scores stacked and sheared by the first bit. -/
theorem stackL (am : FVec F S4096x500 .f32) (amx : FVec F S4096x1 .f32) (eam : FVec F S4096x500 .f32) (P : FVec F S500x500 .f32) (r0 r1 r2 r3 r4 r5 r6 : FVec F S512x1x129 .f32) (v w : Vec F S1x129x1 .i32) : k0_pay103 am amx eam r0 r1 r2 r3 r4 r5 r6 (k0_pay90 classRows w) (k0_pay91 P classRows v) (k0_pay92 P classRows v) = shear S1x8x129 S639x8x129 slices_S640x8x129_o0_0_0_S639x8x129 concatenates_S1x8x129_S639x8x129_S640x8x129_d0 1#32 (stack ![r0, r1, r2, r3, r4, r5, r6, labelRow am amx eam P 7 v w]) := rfl

/-- The label parts of the blank scores stacked. -/
theorem partsB (P : FVec F S500x500 .f32) (r0 r1 r2 r3 r4 r5 r6 : FVec F S1x129 .f32) (v : Vec F S1x129x1 .i32) : k0_pay96 (k0_pay11 (F := F) classes 0#32) r0 r1 r2 r3 r4 r5 r6 (k0_pay91 P classRows v) = stackParts ![r0, r1, r2, r3, r4, r5, r6, blankPart P v] := rfl

/-- The label parts of the label scores stacked. -/
theorem partsL (P : FVec F S500x500 .f32) (r0 r1 r2 r3 r4 r5 r6 : FVec F S1x129 .f32) (v w : Vec F S1x129x1 .i32) : k0_pay97 (k0_pay12 (F := F)) (k0_pay13 (F := F)) r0 r1 r2 r3 r4 r5 r6 (k0_pay90 classRows w) (k0_pay91 P classRows v) = stackParts ![r0, r1, r2, r3, r4, r5, r6, labelPart P v w] := rfl

/-- The last sequence's largest label part. -/
theorem top7 (P : FVec F S500x500 .f32) (v : Vec F S1x129x1 .i32) : broadcast S1x1 (k0_pay93 (k0_pay92 P classRows v)) = topPart P v := rfl

/-- Eight single values stacked, the last one given by its reduction. -/
theorem topsAny (r0 r1 r2 r3 r4 r5 r6 : FVec F S1x1 .f32) (w : FVec F S1 .f32) : k0_pay98 r0 r1 r2 r3 r4 r5 r6 w = stackTops ![r0, r1, r2, r3, r4, r5, r6, broadcast S1x1 (k0_pay93 w)] := rfl

/-- The largest label parts stacked. -/
theorem tops (P : FVec F S500x500 .f32) (r0 r1 r2 r3 r4 r5 r6 : FVec F S1x1 .f32) (v : Vec F S1x129x1 .i32) : k0_pay98 r0 r1 r2 r3 r4 r5 r6 (k0_pay92 P classRows v) = stackTops ![r0, r1, r2, r3, r4, r5, r6, topPart P v] := by
  rw [← top7, topsAny]

/-- Bits two to four of the blank scores. -/
theorem bitsB (X : FVec F S640x8x129 .f32) : k0_pay110 places X = (shear S8x8x129 S632x8x129 slices_S640x8x129_o0_0_0_S632x8x129 concatenates_S8x8x129_S632x8x129_S640x8x129_d0 8#32 (shear S4x8x129 S636x8x129 slices_S640x8x129_o0_0_0_S636x8x129 concatenates_S4x8x129_S636x8x129_S640x8x129_d0 4#32 (shear S2x8x129 S638x8x129 slices_S640x8x129_o0_0_0_S638x8x129 concatenates_S2x8x129_S638x8x129_S640x8x129_d0 2#32 X))) := rfl

/-- Bits two to four of the label scores. -/
theorem bitsL (X : FVec F S640x8x129 .f32) : k0_pay111 places X = (shear S8x8x129 S632x8x129 slices_S640x8x129_o0_0_0_S632x8x129 concatenates_S8x8x129_S632x8x129_S640x8x129_d0 8#32 (shear S4x8x129 S636x8x129 slices_S640x8x129_o0_0_0_S636x8x129 concatenates_S4x8x129_S636x8x129_S640x8x129_d0 4#32 (shear S2x8x129 S638x8x129 slices_S640x8x129_o0_0_0_S638x8x129 concatenates_S2x8x129_S638x8x129_S640x8x129_d0 2#32 X))) := rfl

/-- Bits five to seven of the blank scores. -/
theorem bitsB2 (X : FVec F S640x8x129 .f32) : k0_pay118 places X (k0_pay112 places) = (shear S64x8x129 S576x8x129 slices_S640x8x129_o0_0_0_S576x8x129 concatenates_S64x8x129_S576x8x129_S640x8x129_d0 64#32 (shear S32x8x129 S608x8x129 slices_S640x8x129_o0_0_0_S608x8x129 concatenates_S32x8x129_S608x8x129_S640x8x129_d0 32#32 (shear S16x8x129 S624x8x129 slices_S640x8x129_o0_0_0_S624x8x129 concatenates_S16x8x129_S624x8x129_S640x8x129_d0 16#32 X))) := rfl

/-- Bits five to seven of the label scores. -/
theorem bitsL2 (X : FVec F S640x8x129 .f32) : k0_pay119 places X (k0_pay112 places) = (shear S64x8x129 S576x8x129 slices_S640x8x129_o0_0_0_S576x8x129 concatenates_S64x8x129_S576x8x129_S640x8x129_d0 64#32 (shear S32x8x129 S608x8x129 slices_S640x8x129_o0_0_0_S608x8x129 concatenates_S32x8x129_S608x8x129_S640x8x129_d0 32#32 (shear S16x8x129 S624x8x129 slices_S640x8x129_o0_0_0_S624x8x129 concatenates_S16x8x129_S624x8x129_S640x8x129_d0 16#32 X))) := rfl

/-- The last bit of the blank scores and their label part. -/
theorem lastB (l : FVec F S8x129 .f32) (b : FVec F S8x1 .f32) (X : FVec F S640x8x129 .f32) : k0_pay124 l b (k0_pay118 places X (k0_pay112 places)) (k0_pay122 places X (k0_pay112 places)) (k0_pay123 places) = tableB l b (shear S128x8x129 S512x8x129 slices_S640x8x129_o0_0_0_S512x8x129 concatenates_S128x8x129_S512x8x129_S640x8x129_d0 128#32 (shear S64x8x129 S576x8x129 slices_S640x8x129_o0_0_0_S576x8x129 concatenates_S64x8x129_S576x8x129_S640x8x129_d0 64#32 (shear S32x8x129 S608x8x129 slices_S640x8x129_o0_0_0_S608x8x129 concatenates_S32x8x129_S608x8x129_S640x8x129_d0 32#32 (shear S16x8x129 S624x8x129 slices_S640x8x129_o0_0_0_S624x8x129 concatenates_S16x8x129_S624x8x129_S640x8x129_d0 16#32 X)))) := rfl

/-- The last bit of the label scores, their label part and the mask. -/
theorem lastL (yl : IVec S8x1 32) (l : FVec F S8x129 .f32) (b : FVec F S8x1 .f32) (X : FVec F S640x8x129 .f32) : k0_pay125 yl l b X (k0_pay120 places) (k0_pay121 (F := F)) = tableL yl l b (shear S128x8x129 S512x8x129 slices_S640x8x129_o0_0_0_S512x8x129 concatenates_S128x8x129_S512x8x129_S640x8x129_d0 128#32 X) := rfl

end Cert.Proof.Tower
-- ==== Proof.KernelRun.lean ====
/- The kernel's run as the tower's words: the result block is the sweep of the two tables, read out of the frame run. -/
module

public import proofs.«01_k».proof.Proof.Tower

@[expose] public section

set_option maxRecDepth 65536
set_option maxHeartbeats 400000

noncomputable section

namespace Cert.Proof.Tower

open Idealize.ShloMosaic Idealize.ShloMosaic.TcCoe Idealize.SL.Sem
open Cert.KernelIdeal Cert.KernelIdeal.Gen
open Idealize.ShloMosaic.Pipeline (Dat)

variable {F : FTy → Type} [FloatOps F] [Named F]

/-- Row `n` of an 8-row column lies in it. -/
theorem rowInb : ∀ n : Fin 8, ∀ a, (![n.val, 0, 0] : Fin 3 → ℕ) a + S1x129x1.size a ≤ S8x129x1.size a := by decide

/-- Sequence `n`'s words. -/
def wordRow (x : Vec F S8x129x1 .i32) (n : Fin 8) : Vec F S1x129x1 .i32 :=
  View.ld x (Rect.unit (s := S8x129x1) ![n.val, 0, 0] S1x129x1.size (rowInb n))

/-- Diagonal `k` of a table. -/
def diag (S : FVec F S640x8x129 .f32) (k : Fin k0_t1_loop.trips) : FVec F S1x8x129 .f32 :=
  View.ld (Val := Elt F) (e' := .f32) S (Rect.unit (s := S640x8x129) (k0_off1 k) S1x8x129.size (k0_off1_inb k))

/-- One step of the sweep over diagonals: the forward variable and the collected final values. -/
def wave (dl : IVec S8x1 32) (ul : IVec S8x129 1) (SB SL : FVec F S640x8x129 .f32) (k : Fin k0_t1_loop.trips)
    (s : FVec F S8x129 .f32 × FVec F S8x129 .f32) : FVec F S8x129 .f32 × FVec F S8x129 .f32 :=
  (k0_pay3 (k0_pay130 (F := F)) s.1 (diag SB k) (diag SL k), k0_pay2 dl ul 0#32 k s.1 s.2 (diag SB k))

/-- The sweep's state before diagonal `n`. -/
def waves (dl : IVec S8x1 32) (ul : IVec S8x129 1) (SB SL : FVec F S640x8x129 .f32) :
    ℕ → FVec F S8x129 .f32 × FVec F S8x129 .f32
  | 0 => (k0_pay128 (F := F), k0_pay129 (F := F))
  | n + 1 => if h : n < k0_t1_loop.trips then wave dl ul SB SL ⟨n, h⟩ (waves dl ul SB SL n) else waves dl ul SB SL n

/-- The blank table of the whole kernel. -/
def blanks (am : FVec F S4096x500 .f32) (amx : FVec F S4096x1 .f32) (eam : FVec F S4096x500 .f32)
    (P : FVec F S500x500 .f32) (x3 : Vec F S8x129x1 .i32) : FVec F S640x8x129 .f32 :=
  tableB (stackParts fun n => blankPart P (wordRow x3 n)) (stackTops fun n => topPart P (wordRow x3 n))
    (sheared (stack fun n => blankRow am amx eam P n (wordRow x3 n)))

/-- The label table of the whole kernel. -/
def labels (yl : IVec S8x1 32) (am : FVec F S4096x500 .f32) (amx : FVec F S4096x1 .f32) (eam : FVec F S4096x500 .f32)
    (P : FVec F S500x500 .f32) (x3 x4 : Vec F S8x129x1 .i32) : FVec F S640x8x129 .f32 :=
  tableL yl (stackParts fun n => labelPart P (wordRow x3 n) (wordRow x4 n)) (stackTops fun n => topPart P (wordRow x3 n))
    (sheared (stack fun n => labelRow am amx eam P n (wordRow x3 n) (wordRow x4 n)))

/-- The kernel's result from its twelve window blocks. -/
def result (x0 : Vec F S4096x80 .f32) (x1 : Vec F S8x1 .i32) (x2 : Vec F S8x1 .i32) (x3 : Vec F S8x129x1 .i32) (x4 : Vec F S8x129x1 .i32) (x5 : Vec F S80x512 .f32) (x6 : Vec F S1x512 .f32) (x7 : Vec F S500x512 .f32) (x8 : Vec F S512x500 .f32) (x9 : Vec F S1x500 .f32) (x10 : Vec F S512x500 .f32) (x11 : Vec F S1x500 .f32) : Vec F S1x1 .f32 :=
  k0_pay4 (waves (k0_pay126 (k0_pay5 x1) (k0_pay6 x2)) (k0_pay127 (k0_pay6 x2))
    (blanks (k0_pay7 x0 x5 x8 x6 x8 x9) (k0_pay8 x0 x5 x8 x6 x8 x9) (k0_pay9 x0 x5 x8 x6 x8 x9) (k0_pay10 x7 x10 x11) x3)
    (labels (k0_pay6 x2) (k0_pay7 x0 x5 x8 x6 x8 x9) (k0_pay8 x0 x5 x8 x6 x8 x9) (k0_pay9 x0 x5 x8 x6 x8 x9)
      (k0_pay10 x7 x10 x11) x3 x4) k0_t1_loop.trips).2

/-- One trip of the kernel's loop is one step of the sweep. -/
theorem trip_eq (𝒱 : Variants) (c : Dev nD) (bd : Option 𝒱.V) (arg0 : Memref sig .tc .vmem S4096x80 .f32) (harg0 : arg0.IsWhole) (arg1 : Memref sig .tc .vmem S8x1 .i32) (harg1 : arg1.IsWhole) (arg2 : Memref sig .tc .vmem S8x1 .i32) (harg2 : arg2.IsWhole) (arg3 : Memref sig .tc .vmem S8x129x1 .i32) (harg3 : arg3.IsWhole) (arg4 : Memref sig .tc .vmem S8x129x1 .i32) (harg4 : arg4.IsWhole) (arg5 : Memref sig .tc .vmem S80x512 .f32) (harg5 : arg5.IsWhole) (arg6 : Memref sig .tc .vmem S1x512 .f32) (harg6 : arg6.IsWhole) (arg7 : Memref sig .tc .vmem S500x512 .f32) (harg7 : arg7.IsWhole) (arg8 : Memref sig .tc .vmem S512x500 .f32) (harg8 : arg8.IsWhole) (arg9 : Memref sig .tc .vmem S1x500 .f32) (harg9 : arg9.IsWhole) (arg10 : Memref sig .tc .vmem S512x500 .f32) (harg10 : arg10.IsWhole) (arg11 : Memref sig .tc .vmem S1x500 .f32) (harg11 : arg11.IsWhole) (arg12 : Memref sig .tc .vmem S1x1 .f32) (harg12 : arg12.IsWhole) (arg13 : Memref sig .tc .vmem S640x8x129 .f32) (harg13 : arg13.IsWhole) (arg14 : Memref sig .tc .vmem S640x8x129 .f32) (harg14 : arg14.IsWhole)
    (v534 : IVec S8x1 32) (v536 : IVec S8x129 1) (X13 : BufTy.Contents (Elt F) arg13.view.ty)
    (X14 : BufTy.Contents (Elt F) arg14.view.ty) (SB SL : FVec F S640x8x129 .f32)
    (h13 : arg13.view.read (Elt F) X13 = SB) (h14 : arg14.view.read (Elt F) X14 = SL)
    (k : Fin k0_t1_loop.trips) (acc : FVec F S8x129 .f32 × FVec F S8x129 .f32) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v534 v536 (k0_pay130 (F := F)) 0#32 X13 X14 k acc = wave v534 v536 SB SL k acc := by
  subst h13; subst h14
  unfold tripR_k0_t1 trip_k0_t1
  simp only [View.readAt_eq_ld]
  rfl

/-- The loop's state is the sweep's. -/
theorem st_eq (𝒱 : Variants) (c : Dev nD) (bd : Option 𝒱.V) (arg0 : Memref sig .tc .vmem S4096x80 .f32) (harg0 : arg0.IsWhole) (arg1 : Memref sig .tc .vmem S8x1 .i32) (harg1 : arg1.IsWhole) (arg2 : Memref sig .tc .vmem S8x1 .i32) (harg2 : arg2.IsWhole) (arg3 : Memref sig .tc .vmem S8x129x1 .i32) (harg3 : arg3.IsWhole) (arg4 : Memref sig .tc .vmem S8x129x1 .i32) (harg4 : arg4.IsWhole) (arg5 : Memref sig .tc .vmem S80x512 .f32) (harg5 : arg5.IsWhole) (arg6 : Memref sig .tc .vmem S1x512 .f32) (harg6 : arg6.IsWhole) (arg7 : Memref sig .tc .vmem S500x512 .f32) (harg7 : arg7.IsWhole) (arg8 : Memref sig .tc .vmem S512x500 .f32) (harg8 : arg8.IsWhole) (arg9 : Memref sig .tc .vmem S1x500 .f32) (harg9 : arg9.IsWhole) (arg10 : Memref sig .tc .vmem S512x500 .f32) (harg10 : arg10.IsWhole) (arg11 : Memref sig .tc .vmem S1x500 .f32) (harg11 : arg11.IsWhole) (arg12 : Memref sig .tc .vmem S1x1 .f32) (harg12 : arg12.IsWhole) (arg13 : Memref sig .tc .vmem S640x8x129 .f32) (harg13 : arg13.IsWhole) (arg14 : Memref sig .tc .vmem S640x8x129 .f32) (harg14 : arg14.IsWhole)
    (v534 : IVec S8x1 32) (v536 : IVec S8x129 1) (X13 : BufTy.Contents (Elt F) arg13.view.ty)
    (X14 : BufTy.Contents (Elt F) arg14.view.ty) (SB SL : FVec F S640x8x129 .f32)
    (h13 : arg13.view.read (Elt F) X13 = SB) (h14 : arg14.view.read (Elt F) X14 = SL) (n : ℕ) (hn : n ≤ k0_t1_loop.trips) :
    st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v534 v536 (k0_pay130 (F := F)) 0#32 X13 X14 (k0_pay128 (F := F), k0_pay129 (F := F)) n
      = waves v534 v536 SB SL n := by
  induction n with
  | zero => rfl
  | succ n ih =>
    have h := st_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v534 v536 (k0_pay130 (F := F)) 0#32 X13 X14
      (k0_pay128 (F := F), k0_pay129 (F := F)) ⟨n, hn⟩
    rw [h, trip_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v534 v536 X13 X14 SB SL h13 h14]
    simp only [ih (by omega), waves, dif_pos (show n < k0_t1_loop.trips from hn)]

/-- A table stored whole into a scratch buffer reads back as itself. -/
theorem filled (v : View sig .tc .vmem S640x8x129 .f32) (w : FVec F S640x8x129 .f32) (L : List (View.Piece (Elt F) S640x8x129 .f32)) :
    v.read (Elt F) (v.writes (Elt F) v.junk
      ((⟨Rect.unit (s := S640x8x129) ![0, 0, 0] S640x8x129.size inb_S640x8x129_S640x8x129_0_0_0, w⟩ :
        View.Piece (Elt F) S640x8x129 .f32) :: L)) = w := by
  rw [View.read_writes_junk_eq_canon]
  exact View.canon_cons_unit_lit' (S := S640x8x129) (off := ![0, 0, 0]) _ w L (by decide)

/-- What the frame run leaves in the result's block. -/
theorem out_eq (c : Dev nD) (arg0 : Memref sig .tc .vmem S4096x80 .f32) (harg0 : arg0.IsWhole) (arg1 : Memref sig .tc .vmem S8x1 .i32) (harg1 : arg1.IsWhole) (arg2 : Memref sig .tc .vmem S8x1 .i32) (harg2 : arg2.IsWhole) (arg3 : Memref sig .tc .vmem S8x129x1 .i32) (harg3 : arg3.IsWhole) (arg4 : Memref sig .tc .vmem S8x129x1 .i32) (harg4 : arg4.IsWhole) (arg5 : Memref sig .tc .vmem S80x512 .f32) (harg5 : arg5.IsWhole) (arg6 : Memref sig .tc .vmem S1x512 .f32) (harg6 : arg6.IsWhole) (arg7 : Memref sig .tc .vmem S500x512 .f32) (harg7 : arg7.IsWhole) (arg8 : Memref sig .tc .vmem S512x500 .f32) (harg8 : arg8.IsWhole) (arg9 : Memref sig .tc .vmem S1x500 .f32) (harg9 : arg9.IsWhole) (arg10 : Memref sig .tc .vmem S512x500 .f32) (harg10 : arg10.IsWhole) (arg11 : Memref sig .tc .vmem S1x500 .f32) (harg11 : arg11.IsWhole) (arg12 : Memref sig .tc .vmem S1x1 .f32) (harg12 : arg12.IsWhole) (arg13 : Memref sig .tc .vmem S640x8x129 .f32) (harg13 : arg13.IsWhole) (arg14 : Memref sig .tc .vmem S640x8x129 .f32) (harg14 : arg14.IsWhole) (x0 : Vec F S4096x80 .f32) (x1 : Vec F S8x1 .i32) (x2 : Vec F S8x1 .i32) (x3 : Vec F S8x129x1 .i32) (x4 : Vec F S8x129x1 .i32) (x5 : Vec F S80x512 .f32) (x6 : Vec F S1x512 .f32) (x7 : Vec F S500x512 .f32) (x8 : Vec F S512x500 .f32) (x9 : Vec F S1x500 .f32) (x10 : Vec F S512x500 .f32) (x11 : Vec F S1x500 .f32) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = result x0 x1 x2 x3 x4 x5 x6 x7 x8 x9 x10 x11 := by
  frame_out
  rw [st_eq Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 _ _ _ _ _ _ (filled _ _ _) (filled _ _ _) _ le_rfl]
  simp only [blank0, label0, bpart0, lpart0, top0, blank1, label1, bpart1, lpart1, top1, blank2, label2, bpart2, lpart2, top2, blank3, label3, bpart3, lpart3, top3, blank4, label4, bpart4, lpart4, top4, blank5, label5, bpart5, lpart5, top5, blank6, label6, bpart6, lpart6, top6, stackB, stackL, partsB, partsL, tops, bitsB, bitsL, lastB, bitsL2, lastL]
  rfl

end Cert.Proof.Tower
-- ==== Proof.Score.lean ====
/- The scores over the reals: the log-softmax of a sum of an acoustic and a label part, from the two spellings the kernel
   and the reference use. No program is in it. -/
module

public import Idealize.ShloMosaic.PureOps.Ideal

@[expose] public section

noncomputable section

namespace Cert.Proof.Score

open Idealize.ShloMosaic

/-- The log-softmax of `A + L` at class `k`. -/
def score (A L : Fin 500 → ℝ) (k : Fin 500) : EReal := ((A k + L k - Real.log (∑ j, Real.exp (A j + L j)) : ℝ) : EReal)

/-- A sum of reals read as an extended real is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `Ideal.exp` of a real. -/
theorem exp_coe (r : ℝ) : Ideal.exp (r : EReal) = ((Real.exp r : ℝ) : EReal) := rfl

/-- `Ideal.log` of a positive real. -/
theorem log_coe (r : ℝ) (h : 0 < r) : Ideal.log (r : EReal) = ((Real.log r : ℝ) : EReal) := by
  change (if r ≤ 0 then (⊥ : EReal) else (Real.log r : EReal)) = _
  rw [if_neg (not_le.2 h)]

/-- The exponentials of 500 reals have a positive sum. -/
theorem sum_exp_pos (f : Fin 500 → ℝ) : 0 < ∑ j, Real.exp (f j) :=
  Finset.sum_pos (fun _ _ => Real.exp_pos _) ⟨0, Finset.mem_univ _⟩

/-- The largest of finitely many reals, folded from −∞, is a real. -/
theorem fold_max_real {ι : Type} (s : Finset ι) (hs : s.Nonempty) (f : ι → ℝ) :
    ∃ r : ℝ, s.fold max (⊥ : EReal) (fun i => (f i : EReal)) = r := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- The kernel's spelling of a score: the normalizer a product of exponentials taken from the two parts' own maxima. -/
theorem kernel_score (A L : Fin 500 → ℝ) (mx bx : ℝ) (k : Fin 500) :
    ((A k : EReal) - (Ideal.log (∑ j, Ideal.exp ((A j : EReal) - (mx : EReal)) * Ideal.exp ((L j : EReal) - (bx : EReal)))
      + (mx : EReal))) + ((L k : EReal) - (bx : EReal)) = score A L k := by
  have h : (∑ j, Ideal.exp ((A j : EReal) - (mx : EReal)) * Ideal.exp ((L j : EReal) - (bx : EReal)))
      = ((∑ j, Real.exp (A j + L j) * Real.exp (-(mx + bx)) : ℝ) : EReal) := by
    rw [coe_sum]
    refine Finset.sum_congr rfl fun j _ => ?_
    rw [← EReal.coe_sub, ← EReal.coe_sub, exp_coe, exp_coe, ← EReal.coe_mul, ← Real.exp_add, ← Real.exp_add]
    congr 2; ring
  rw [h, ← Finset.sum_mul, log_coe _ (mul_pos (sum_exp_pos _) (Real.exp_pos _)),
    Real.log_mul (sum_exp_pos _).ne' (Real.exp_pos _).ne', Real.log_exp, ← EReal.coe_add, ← EReal.coe_sub,
    ← EReal.coe_sub, ← EReal.coe_add]
  exact congrArg Real.toEReal (by ring)

/-- The reference's spelling of a score: the log-softmax of the sum, shifted by its own maximum. -/
theorem ref_score (A L : Fin 500 → ℝ) (mx : ℝ) (k : Fin 500) :
    (((A k : EReal) + (L k : EReal)) - (mx : EReal))
      - Ideal.log (0 + ∑ j, Ideal.exp (((A j : EReal) + (L j : EReal)) - (mx : EReal))) = score A L k := by
  have h : (∑ j, Ideal.exp (((A j : EReal) + (L j : EReal)) - (mx : EReal)))
      = ((∑ j, Real.exp (A j + L j) * Real.exp (-mx) : ℝ) : EReal) := by
    rw [coe_sum]
    refine Finset.sum_congr rfl fun j _ => ?_
    rw [← EReal.coe_add, ← EReal.coe_sub, exp_coe, ← Real.exp_add]
    congr 2
  rw [zero_add, h, ← Finset.sum_mul, log_coe _ (mul_pos (sum_exp_pos _) (Real.exp_pos _)),
    Real.log_mul (sum_exp_pos _).ne' (Real.exp_pos _).ne', Real.log_exp, ← EReal.coe_add, ← EReal.coe_sub,
    ← EReal.coe_sub]
  exact congrArg Real.toEReal (by ring)

/-- A sum against a one-hot row picks its term. -/
theorem hot_sum {n : ℕ} (c : Fin n) (p : Fin n → EReal) : (∑ v, (if v = c then (1 : EReal) else 0) * p v) = p c := by
  rw [Finset.sum_eq_single c]
  · rw [if_pos rfl, one_mul]
  · intro b _ hb; rw [if_neg hb, zero_mul]
  · intro h; exact absurd (Finset.mem_univ c) h

/-- The acoustic part of class `k`: the frame through both layers. -/
def acoustic (x : Fin 80 → ℝ) (We : Fin 80 → Fin 512 → ℝ) (be : Fin 512 → ℝ) (Wa : Fin 512 → ℝ) (ba : ℝ) : ℝ :=
  (∑ j, (∑ i, x i * We i j + be j) * Wa j) + ba

/-- The reference's spelling of the acoustic part: the two layers one after the other. -/
theorem acoustic_ref (x : Fin 80 → ℝ) (We : Fin 80 → Fin 512 → ℝ) (be : Fin 512 → ℝ) (Wa : Fin 512 → ℝ) (ba : ℝ) :
    (∑ j, ((∑ i, (x i : EReal) * (We i j : EReal)) + (be j : EReal)) * (Wa j : EReal)) + (ba : EReal)
      = (acoustic x We be Wa ba : EReal) := by
  unfold acoustic
  rw [EReal.coe_add, coe_sum]
  congr 1

/-- The kernel's spelling of the acoustic part: the layers multiplied first. -/
theorem acoustic_kernel (x : Fin 80 → ℝ) (We : Fin 80 → Fin 512 → ℝ) (be : Fin 512 → ℝ) (Wa : Fin 512 → ℝ) (ba : ℝ) :
    (∑ i, (x i : EReal) * (∑ j, (We i j : EReal) * (Wa j : EReal)))
        + ((∑ j, (be j : EReal) * (Wa j : EReal)) + (ba : EReal))
      = (acoustic x We be Wa ba : EReal) := by
  have h1 : ∀ i, (∑ j, (We i j : EReal) * (Wa j : EReal)) = ((∑ j, We i j * Wa j : ℝ) : EReal) := fun i => by
    rw [coe_sum]; simp only [EReal.coe_mul]
  have h2 : (∑ j, (be j : EReal) * (Wa j : EReal)) = ((∑ j, be j * Wa j : ℝ) : EReal) := by
    rw [coe_sum]; simp only [EReal.coe_mul]
  have h3 : (∑ i, (x i : EReal) * ((∑ j, We i j * Wa j : ℝ) : EReal)) = ((∑ i, x i * ∑ j, We i j * Wa j : ℝ) : EReal) := by
    rw [coe_sum]; simp only [EReal.coe_mul]
  simp only [h1, h2, h3, ← EReal.coe_add]
  refine congrArg Real.toEReal ?_
  unfold acoustic
  have h4 : ∑ j, (∑ i, x i * We i j + be j) * Wa j = (∑ i, x i * ∑ j, We i j * Wa j) + ∑ j, be j * Wa j := by
    simp only [add_mul, Finset.sum_add_distrib, Finset.sum_mul, Finset.mul_sum]
    rw [Finset.sum_comm]
    simp only [mul_assoc]
  rw [h4]; ring

/-- The label part of class `k`: the word's vector through its layer. -/
def lexical (e : Fin 512 → ℝ) (Wl : Fin 512 → ℝ) (bl : ℝ) : ℝ := (∑ j, e j * Wl j) + bl

/-- The label part as both programs compute it. -/
theorem lexical_eq (e : Fin 512 → ℝ) (Wl : Fin 512 → ℝ) (bl : ℝ) :
    (∑ j, (e j : EReal) * (Wl j : EReal)) + (bl : EReal) = (lexical e Wl bl : EReal) := by
  unfold lexical
  rw [EReal.coe_add, coe_sum]
  simp only [EReal.coe_mul]

/-- A whole array with no infinite entry is an array of reals. -/
theorem reals {ι : Type} (f : ι → EReal) (h : ∀ i, max (f i) (-(f i)) < ⊤) : ∃ g : ι → ℝ, f = fun i => (g i : EReal) := by
  refine ⟨fun i => (f i).toReal, funext fun i => ?_⟩
  have hi := h i
  refine (EReal.coe_toReal ?_ ?_).symm
  · rintro h1; rw [h1] at hi; simp at hi
  · rintro h1; rw [h1] at hi; simp at hi

end Cert.Proof.Score
-- ==== Proof.KernelRows.lean ====
/- The kernel's rows at the ideal carrier: one sequence's blank and label rows, with their label parts added, are the
   log-softmax scores. -/
module

public import proofs.«01_k».proof.Proof.Tower
public import proofs.«01_k».proof.Proof.Score

@[expose] public section

set_option maxRecDepth 65536
set_option maxHeartbeats 400000

noncomputable section

namespace Cert.Proof.Tower

open Idealize.ShloMosaic Idealize.ShloMosaic.TcCoe Idealize.SL.Sem
open Cert.KernelIdeal Cert.KernelIdeal.Gen Cert.Proof.Score

/-- The pattern of minus infinity. -/
theorem bits_bot : Ideal.ofBits .f32 0xFF800000#32 = ⊥ := by simp [Ideal.ofBits, Ideal.ieee]

/-- A comparison turned into a float is one where it holds and zero elsewhere. -/
theorem hot_bit (a b : BitVec 32) :
    (FloatOps.sitofp .f32 (BitVec.setWidth 32 (IntOp.cmpi .eq a b)) : Ideal .f32) = if a = b then (1 : EReal) else 0 := by
  have h1 : (BitVec.setWidth 32 (BitVec.ofBool true)).toInt = 1 := by decide
  have h0 : (BitVec.setWidth 32 (BitVec.ofBool false)).toInt = 0 := by decide
  change (((BitVec.setWidth 32 (BitVec.ofBool (decide (a = b)))).toInt : ℝ) : EReal) = _
  by_cases h : a = b
  · rw [if_pos h, decide_eq_true h, h1, Int.cast_one, EReal.coe_one]
  · rw [if_neg h, decide_eq_false h, h0, Int.cast_zero, EReal.coe_zero]

/-- Two class numbers below 500 agree as words exactly when they agree. -/
theorem word_eq (a b : Fin 500) : BitVec.ofNat 32 a.val = BitVec.ofNat 32 b.val ↔ b = a := by
  have ha := a.isLt
  have hb := b.isLt
  refine ⟨fun h => ?_, fun h => by rw [h]⟩
  have := congrArg BitVec.toNat h
  rw [BitVec.toNat_ofNat, BitVec.toNat_ofNat, Nat.mod_eq_of_lt (by omega), Nat.mod_eq_of_lt (by omega)] at this
  exact Fin.ext this.symm

/-- Two places below 129 agree as words exactly when they agree. -/
theorem word_eq' (a b : Fin 129) : BitVec.ofNat 32 a.val = BitVec.ofNat 32 b.val ↔ a = b := by
  have ha := a.isLt
  have hb := b.isLt
  refine ⟨fun h => ?_, fun h => by rw [h]⟩
  have := congrArg BitVec.toNat h
  rw [BitVec.toNat_ofNat, BitVec.toNat_ofNat, Nat.mod_eq_of_lt (by omega), Nat.mod_eq_of_lt (by omega)] at this
  exact Fin.ext this

/-- A row of one-hot words. -/
theorem hots (w : Vec Ideal S1x129x1 .i32) (ww : Fin 129 → Fin 500)
    (hw : ∀ u, w (ix3 0 u 0) = BitVec.ofNat 32 (ww u).val) (u : Fin 129) (k : Fin 500) :
    k0_pay14 (F := Ideal) w (ix2 u k) = if k = ww u then (1 : EReal) else 0 := by
  unfold k0_pay14
  simp only [pointwise]
  rw [hot_bit]
  have e : BitVec.ofNat 32 (List.foldl (fun n a => n * S129x500.size a + (ix2 u k a).val) 0 [1]) = BitVec.ofNat 32 k.val :=
    congrArg (BitVec.ofNat 32) (show 0 * 500 + k.val = k.val by omega)
  refine if_congr ?_ rfl rfl
  rw [e, ← word_eq, ← hw u]
  exact Iff.rfl

/-- The words' label parts for every class. -/
theorem picked (P : FVec Ideal S500x500 .f32) (v : Vec Ideal S1x129x1 .i32) (wv : Fin 129 → Fin 500)
    (hv : ∀ u, v (ix3 0 u 0) = BitVec.ofNat 32 (wv u).val) (u : Fin 129) (k : Fin 500) :
    k0_pay15 P v (ix2 u k) = P (ix2 (wv u) k) := by
  have h : k0_pay15 P v (ix2 u k) = 0 + ∑ j : Fin 500, k0_pay14 (F := Ideal) v (ix2 u j) * P (ix2 j k) := by
    unfold k0_pay15 k0_pay14
    simp only [pointwise]
  rw [h, zero_add]
  simp only [hots v wv hv]
  exact hot_sum (wv u) fun j => P (ix2 j k)

/-- Frame `t` of sequence `n` in the stacked frames. -/
def frame (n : Fin 8) (t : Fin 512) : Fin 4096 := ⟨512 * n.val + t.val, by have := n.isLt; have := t.isLt; omega⟩

section
variable (am : FVec Ideal S4096x500 .f32) (amx : FVec Ideal S4096x1 .f32) (eam : FVec Ideal S4096x500 .f32)
  (P : FVec Ideal S500x500 .f32) (n : Fin 8) (v w : Vec Ideal S1x129x1 .i32)

/-- The normalizer of one cell, over any shifted label parts. -/
theorem norm_any (L : FVec Ideal S129x500 .f32) (t : Fin 512) (u : Fin 129) :
    addf (log (matmul dot_S512x500_S129x500_S512x129_1_1_0_0_n_n (some .fp32)
        (extractStridedSlice S512x500 ![512 * n.val, 0] eam (slices500 n)) L (constant (F := Ideal) S512x129 .f32 0x00000000#32)))
      (broadcastTo S512x129 (extractStridedSlice S512x1 ![512 * n.val, 0] amx (slices1 n)) broadcasts_S512x1_S512x129)
      (ix2 t u)
      = Ideal.log (∑ j : Fin 500, eam (ix2 (frame n t) j) * L (ix2 u j)) + amx (ix2 (frame n t) 0) := by
  simp only [pointwise]
  rw [zero_add]
  refine congrArg₂ (· + ·) (congrArg Ideal.log (Finset.sum_congr rfl fun j _ => ?_)) ?_
  · exact congrArg (· * _) (congrArg eam (congrArg₂ ix2 (Fin.ext rfl) (Fin.ext (Nat.zero_add j.val))))
  · exact congrArg amx (congrArg₂ ix2 (Fin.ext rfl) (Fin.ext rfl))

/-- Label parts shifted by a value and raised. -/
theorem raised_any (L : FVec Ideal S129x500 .f32) (m : Ideal .f32) (u : Fin 129) (j : Fin 500) :
    (exp (subf L (broadcast S129x500 m)) : FVec Ideal S129x500 .f32) (ix2 u j) = Ideal.exp (L (ix2 u j) - m) := rfl

/-- The normalizer of one cell. -/
theorem norm_apply (t : Fin 512) (u : Fin 129) :
    norm amx eam P n v (ix2 t u)
      = Ideal.log (∑ j : Fin 500, eam (ix2 (frame n t) j)
          * Ideal.exp (k0_pay15 (F := Ideal) P v (ix2 u j) - k0_pay16 (F := Ideal) P v))
        + amx (ix2 (frame n t) 0) :=
  (norm_any amx eam n _ t u).trans (congrArg (fun z => Ideal.log z + amx (ix2 (frame n t) 0))
    (Finset.sum_congr rfl fun j _ => congrArg (eam (ix2 (frame n t) j) * ·)
      (raised_any (k0_pay15 (F := Ideal) P v) (k0_pay16 (F := Ideal) P v) u j)))

/-- One cell of the blank row. -/
theorem blankRow_apply (t : Fin 512) (u : Fin 129) :
    blankRow am amx eam P n v (ix3 t 0 u) = am (ix2 (frame n t) 0) - norm amx eam P n v (ix2 t u) := by
  unfold blankRow
  simp only [pointwise]
  refine congrArg₂ (· - ·) (congrArg am (congrArg₂ ix2 (Fin.ext ?_) (Fin.ext rfl))) rfl
  exact congrArg (512 * n.val + ·) (Nat.zero_add t.val)

/-- One cell of the label row. -/
theorem labelRow_apply (t : Fin 512) (u : Fin 129) :
    labelRow am amx eam P n v w (ix3 t 0 u)
      = (∑ j : Fin 500, am (ix2 (frame n t) j) * k0_pay14 (F := Ideal) w (ix2 u j)) - norm amx eam P n v (ix2 t u) := by
  unfold labelRow
  simp only [pointwise]
  rw [zero_add]
  refine congrArg₂ (· - ·) (Finset.sum_congr rfl fun j _ => ?_) rfl
  exact congrArg (· * _) (congrArg am (congrArg₂ ix2 (Fin.ext rfl) (Fin.ext (Nat.zero_add j.val))))

/-- One entry of the blank scores' label part. -/
theorem blankPart_apply (u : Fin 129) :
    blankPart P v (ix2 0 u) = ∑ j : Fin 500, k0_pay11 (F := Ideal) classes 0#32 (ix2 0 j) * k0_pay15 P v (ix2 u j) := by
  unfold blankPart k0_pay21
  simp only [pointwise]
  rw [zero_add]

/-- One entry of the label scores' label part. -/
theorem labelPart_apply (u : Fin 129) :
    labelPart P v w (ix2 0 u) = ∑ j : Fin 129, (1 : EReal) * ((if j = u then (1 : EReal) else 0)
      * ∑ k : Fin 500, k0_pay15 P v (ix2 j k) * k0_pay14 (F := Ideal) w (ix2 j k)) := by
  unfold labelPart k0_pay22 k0_pay23 k0_pay12 k0_pay13
  simp only [pointwise]
  rw [zero_add]
  refine Finset.sum_congr rfl fun j _ => ?_
  rw [hot_bit]
  refine congrArg (1 * ·) (congrArg₂ (· * ·) (if_congr ?_ rfl rfl) rfl)
  have hj := j.isLt
  have hu := u.isLt
  change BitVec.ofNat 32 (0 * 129 + j.val) = BitVec.ofNat 32 (0 * 129 + u.val) ↔ j = u
  rw [← word_eq' j u]
  simp only [Nat.zero_mul, Nat.zero_add]

/-- A value in a one-cell array. -/
theorem spread_any (m : Ideal .f32) : (k0_pay24 (F := Ideal) m : FVec Ideal S1x1 .f32) (ix2 0 0) = m := rfl

/-- The largest label part. -/
theorem topPart_apply : topPart P v (ix2 0 0) = k0_pay16 (F := Ideal) P v := spread_any _
end

/-- The largest label part of a sequence of real parts is a real. -/
theorem top_real (P : FVec Ideal S500x500 .f32) (Q : Fin 500 → Fin 500 → ℝ) (hP : ∀ a k, P (ix2 a k) = (Q a k : EReal))
    (v : Vec Ideal S1x129x1 .i32) (wv : Fin 129 → Fin 500) (hv : ∀ u, v (ix3 0 u 0) = BitVec.ofNat 32 (wv u).val) :
    ∃ b : ℝ, k0_pay16 (F := Ideal) P v = (b : EReal) := by
  have h : k0_pay16 (F := Ideal) P v = Finset.univ.fold max (Ideal.ofBits .f32 0xFF800000#32)
      (fun x : Fin 129 × Fin 500 => k0_pay15 P v (ix2 x.1 x.2)) := by
    unfold k0_pay16
    generalize k0_pay15 P v = L
    simp only [pointwise]
  rw [h, bits_bot]
  simp only [picked P v wv hv, hP]
  exact fold_max_real _ ⟨(0, 0), Finset.mem_univ _⟩ fun x : Fin 129 × Fin 500 => Q (wv x.1) x.2

/-- Class 0 among the class numbers. -/
theorem class0 (k : Fin 500) : k0_pay11 (F := Ideal) classes 0#32 (ix2 0 k) = if k = 0 then (1 : EReal) else 0 := by
  unfold k0_pay11 classes
  simp only [pointwise]
  rw [hot_bit]
  have e : BitVec.ofNat 32 (List.foldl (fun n a => n * S1x500.size a + (ix2 (0 : Fin 1) k a).val) 0 [1]) = BitVec.ofNat 32 k.val :=
    congrArg (BitVec.ofNat 32) (show 0 * 500 + k.val = k.val by omega)
  refine if_congr ?_ rfl rfl
  rw [e]
  exact (word_eq k 0).trans eq_comm

section
variable (am : FVec Ideal S4096x500 .f32) (amx : FVec Ideal S4096x1 .f32) (eam : FVec Ideal S4096x500 .f32)
  (P : FVec Ideal S500x500 .f32) (A : Fin 4096 → Fin 500 → ℝ) (mx : Fin 4096 → ℝ) (Q : Fin 500 → Fin 500 → ℝ)
  (ham : ∀ r k, am (ix2 r k) = (A r k : EReal)) (hmx : ∀ r, amx (ix2 r 0) = (mx r : EReal))
  (heam : ∀ r k, eam (ix2 r k) = Ideal.exp (am (ix2 r k) - amx (ix2 r 0))) (hP : ∀ a k, P (ix2 a k) = (Q a k : EReal))
  (n : Fin 8) (v w : Vec Ideal S1x129x1 .i32) (wv ww : Fin 129 → Fin 500)
  (hv : ∀ u, v (ix3 0 u 0) = BitVec.ofNat 32 (wv u).val) (hw : ∀ u, w (ix3 0 u 0) = BitVec.ofNat 32 (ww u).val)
include ham hmx heam hP hv

/-- A blank cell with its label part is the score of class 0. -/
theorem blank_cell (t : Fin 512) (u : Fin 129) :
    blankRow am amx eam P n v (ix3 t 0 u) + (blankPart P v (ix2 0 u) - topPart P v (ix2 0 0))
      = score (A (frame n t)) (Q (wv u)) 0 := by
  obtain ⟨b, hb⟩ := top_real P Q hP v wv hv
  rw [blankRow_apply, norm_apply, blankPart_apply, topPart_apply, hb]
  simp only [class0, hot_sum (n := 500) 0, picked P v wv hv, heam, ham, hmx, hP]
  exact kernel_score (A (frame n t)) (Q (wv u)) (mx (frame n t)) b 0

include hw in
/-- A label cell with its label part is the score of the cell's label. -/
theorem label_cell (t : Fin 512) (u : Fin 129) :
    labelRow am amx eam P n v w (ix3 t 0 u) + (labelPart P v w (ix2 0 u) - topPart P v (ix2 0 0))
      = score (A (frame n t)) (Q (wv u)) (ww u) := by
  obtain ⟨b, hb⟩ := top_real P Q hP v wv hv
  rw [labelRow_apply, norm_apply, labelPart_apply, topPart_apply, hb]
  have h1 : ∀ f : Fin 500 → ℝ, (∑ k, (f k : EReal) * (if k = ww u then (1 : EReal) else 0)) = (f (ww u) : EReal) := fun f => by
    rw [← hot_sum (ww u) fun k => (f k : EReal)]
    exact Finset.sum_congr rfl fun k _ => mul_comm _ _
  simp only [one_mul, hot_sum (n := 129) u]
  simp only [hots w ww hw, picked P v wv hv, heam, ham, hmx, hP]
  rw [h1 (A (frame n t)), h1 (Q (wv u))]
  exact kernel_score (A (frame n t)) (Q (wv u)) (mx (frame n t)) b (ww u)
end

section
variable (x0 : Vec Ideal S4096x80 .f32) (x5 : Vec Ideal S80x512 .f32) (x6 : Vec Ideal S1x512 .f32)
  (x7 : Vec Ideal S500x512 .f32) (x8 : Vec Ideal S512x500 .f32) (x9 : Vec Ideal S1x500 .f32)
  (x10 : Vec Ideal S512x500 .f32) (x11 : Vec Ideal S1x500 .f32)
  (X : Fin 4096 → Fin 80 → ℝ) (We : Fin 80 → Fin 512 → ℝ) (be : Fin 512 → ℝ) (E : Fin 500 → Fin 512 → ℝ)
  (Wa : Fin 512 → Fin 500 → ℝ) (ba : Fin 500 → ℝ) (Wl : Fin 512 → Fin 500 → ℝ) (bl : Fin 500 → ℝ)
  (h0 : ∀ r i, x0 (ix2 r i) = (X r i : EReal)) (h5 : ∀ i j, x5 (ix2 i j) = (We i j : EReal))
  (h6 : ∀ j, x6 (ix2 0 j) = (be j : EReal)) (h7 : ∀ a j, x7 (ix2 a j) = (E a j : EReal))
  (h8 : ∀ j k, x8 (ix2 j k) = (Wa j k : EReal)) (h9 : ∀ k, x9 (ix2 0 k) = (ba k : EReal))
  (h10 : ∀ j k, x10 (ix2 j k) = (Wl j k : EReal)) (h11 : ∀ k, x11 (ix2 0 k) = (bl k : EReal))

include h0 h5 h6 h8 h9 in
/-- The kernel's acoustic scores. -/
theorem acoustics (r : Fin 4096) (k : Fin 500) :
    k0_pay7 x0 x5 x8 x6 x8 x9 (ix2 r k) = (acoustic (X r) We be (fun j => Wa j k) (ba k) : EReal) := by
  have h : k0_pay7 x0 x5 x8 x6 x8 x9 (ix2 r k)
      = (∑ i : Fin 80, x0 (ix2 r i) * (∑ j : Fin 512, x5 (ix2 i j) * x8 (ix2 j k)))
        + ((∑ j : Fin 512, x6 (ix2 0 j) * x8 (ix2 j k)) + x9 (ix2 0 k)) := by
    unfold k0_pay7
    simp only [pointwise]
    simp only [zero_add]
    rfl
  rw [h]
  simp only [h0, h5, h6, h8, h9]
  exact acoustic_kernel (X r) We be (fun j => Wa j k) (ba k)

include h7 h10 h11 in
/-- The kernel's label parts. -/
theorem lexicals (a k : Fin 500) :
    k0_pay10 x7 x10 x11 (ix2 a k) = (lexical (E a) (fun j => Wl j k) (bl k) : EReal) := by
  have h : k0_pay10 x7 x10 x11 (ix2 a k) = (∑ j : Fin 512, x7 (ix2 a j) * x10 (ix2 j k)) + x11 (ix2 0 k) := by
    unfold k0_pay10
    simp only [pointwise]
    simp only [zero_add]
    rfl
  rw [h]
  simp only [h7, h10, h11]
  exact lexical_eq (E a) (fun j => Wl j k) (bl k)

/-- The largest acoustic score of a frame, over any scores. -/
theorem tops_fold (r : Fin 4096) :
    k0_pay8 x0 x5 x8 x6 x8 x9 (ix2 r 0) = Finset.univ.fold max (Ideal.ofBits .f32 0xFF800000#32)
      (fun k : Fin 500 => k0_pay7 x0 x5 x8 x6 x8 x9 (ix2 r k)) := by
  unfold k0_pay8
  generalize k0_pay7 x0 x5 x8 x6 x8 x9 = am
  simp only [pointwise]

include h0 h5 h6 h8 h9 in
/-- The largest acoustic score of a frame is a real. -/
theorem tops_real (r : Fin 4096) : ∃ m : ℝ, k0_pay8 x0 x5 x8 x6 x8 x9 (ix2 r 0) = (m : EReal) := by
  rw [tops_fold, bits_bot]
  simp only [acoustics x0 x5 x6 x8 x9 X We be Wa ba h0 h5 h6 h8 h9]
  exact fold_max_real _ ⟨0, Finset.mem_univ _⟩ fun k : Fin 500 => acoustic (X r) We be (fun j => Wa j k) (ba k)

/-- The exponentials of the shifted acoustic scores. -/
theorem exps (r : Fin 4096) (k : Fin 500) :
    k0_pay9 x0 x5 x8 x6 x8 x9 (ix2 r k)
      = Ideal.exp (k0_pay7 x0 x5 x8 x6 x8 x9 (ix2 r k) - k0_pay8 x0 x5 x8 x6 x8 x9 (ix2 r 0)) := by
  unfold k0_pay9
  generalize k0_pay8 x0 x5 x8 x6 x8 x9 = mx
  generalize k0_pay7 x0 x5 x8 x6 x8 x9 = am
  simp only [pointwise]
  rfl
end

end Cert.Proof.Tower
-- ==== Proof.Wave.lean ====
/- The recurrence of the transducer's forward variable over the extended reals, with no program in it: the cells by
   `(t, u)`, the same cells swept by anti-diagonals (the kernel's order) and the same cells swept row by row through a
   window of the last 129 values (the reference's order). -/
module

public import Idealize.ShloMosaic.PureOps.Ideal

@[expose] public section

noncomputable section

namespace Cert.Proof.Wave

open Idealize.ShloMosaic

/-- `log (exp a + exp b)` as both programs compute it: the larger one plus `log1p (exp (-|a - b|))`. -/
def lae (a b : EReal) : EReal := max a b + Ideal.log1p (Ideal.exp (-(max (a - b) (-(a - b)))))

/-- `exp ⊥ = 0` and `log1p 0 = 0`: the correction term of two values infinitely far apart is zero. -/
theorem corr_top : Ideal.log1p (Ideal.exp (-(⊤ : EReal))) = 0 := by
  have he : Ideal.exp (-(⊤ : EReal)) = 0 := by rw [EReal.neg_top]; rfl
  have hl : Ideal.log (((1 : ℝ)) : EReal) = (if (1 : ℝ) ≤ 0 then ⊥ else (Real.log 1 : EReal)) := rfl
  rw [he, Ideal.log1p, add_zero]
  change Ideal.log (((1 : ℝ)) : EReal) = 0
  rw [hl, if_neg (by norm_num), Real.log_one, EReal.coe_zero]

/-- Adding nothing to nothing is nothing. -/
theorem lae_bot_bot : lae ⊥ ⊥ = ⊥ := by
  simp [lae]

/-- Adding nothing to one is one. -/
theorem lae_zero_bot : lae 0 ⊥ = 0 := by
  have h : (0 : EReal) - ⊥ = ⊤ := by simp
  rw [lae, h, max_eq_left (le_top : -(⊤ : EReal) ≤ ⊤), corr_top]
  simp

/-- The forward variable at frame `t` and label `u`, of the blank scores `bl` and the label scores `lb`. -/
def cell (bl lb : ℕ → ℕ → EReal) : ℕ → ℕ → EReal
  | 0, 0 => 0
  | 0, u + 1 => lae ⊥ (cell bl lb 0 u + lb 0 u)
  | t + 1, 0 => lae (cell bl lb t 0 + bl t 0) ⊥
  | t + 1, u + 1 => lae (cell bl lb t (u + 1) + bl t (u + 1)) (cell bl lb (t + 1) u + lb (t + 1) u)
termination_by t u => (t, u)

/-- What the kernel finds at diagonal `d` and label `u` in a table sheared so that frame `t` of label `u` stands at
    `d = t + u`: the table's value, and `⊥` outside of its 512 frames. -/
def sheared (f : ℕ → ℕ → EReal) (d u : ℕ) : EReal := if u ≤ d ∧ d - u < 512 then f (d - u) u else ⊥

variable {bl lb : ℕ → ℕ → EReal}

/-- The anti-diagonal sweep carries the cells: before diagonal `d`, label `u` holds the cell `(d - u, u)` when that is a
    frame, and `⊥` when the diagonal has not reached the label yet. -/
theorem wave (al : ℕ → ℕ → EReal) (h0 : ∀ u < 129, al 0 u = if u = 0 then 0 else ⊥)
    (hs : ∀ d < 640, ∀ u < 129, al (d + 1) u = lae (al d u + sheared bl d u)
      (if u = 0 then ⊥ else al d (u - 1) + sheared lb d (u - 1))) :
    ∀ d ≤ 640, ∀ u < 129, (d < u → al d u = ⊥) ∧ (u ≤ d → d - u < 512 → al d u = cell bl lb (d - u) u) := by
  intro d
  induction d with
  | zero =>
    intro _ u hu
    refine ⟨fun h => by rw [h0 u hu, if_neg (by omega)], fun h _ => ?_⟩
    obtain rfl : u = 0 := by omega
    rw [h0 0 hu, if_pos rfl, cell]
  | succ d ih =>
    intro hd u hu
    have ih := ih (by omega)
    have hst := hs d (by omega) u hu
    refine ⟨fun h => ?_, fun h h' => ?_⟩
    · rw [hst, (ih u hu).1 (by omega), if_neg (by omega), (ih (u - 1) (by omega)).1 (by omega),
        EReal.bot_add, EReal.bot_add, lae_bot_bot]
    · rcases Nat.eq_zero_or_pos u with rfl | hu0
      · rw [hst, if_pos rfl, (ih 0 hu).2 (by omega) (by omega), sheared, if_pos ⟨by omega, by omega⟩]
        simp only [Nat.sub_zero]
        rw [cell]
      · obtain ⟨w, rfl⟩ : ∃ w, u = w + 1 := ⟨u - 1, by omega⟩
        rw [hst, if_neg (by omega), Nat.add_sub_cancel, (ih w (by omega)).2 (by omega) (by omega)]
        rw [show sheared lb d w = lb (d - w) w by rw [sheared, if_pos ⟨by omega, by omega⟩]]
        rcases Nat.eq_or_lt_of_le h with he | hl
        · obtain rfl : d = w := by omega
          rw [(ih (d + 1) hu).1 (by omega), EReal.bot_add, Nat.sub_self, Nat.sub_self, cell]
        · obtain ⟨t, ht⟩ : ∃ t, d - w = t + 1 := ⟨d - w - 1, by omega⟩
          rw [(ih (w + 1) hu).2 (by omega) (by omega),
            show sheared bl d (w + 1) = bl (d - (w + 1)) (w + 1) by rw [sheared, if_pos ⟨by omega, by omega⟩],
            show d - (w + 1) = t by omega, show d + 1 - (w + 1) = t + 1 by omega, ht, cell]

/-- The running total of the anti-diagonal sweep: one diagonal `x + y - 1` adds the blank at the last cell to label `y`,
    and nothing else is added. -/
theorem total (al ac : ℕ → ℕ → EReal) (h0 : ∀ u < 129, al 0 u = if u = 0 then 0 else ⊥)
    (hs : ∀ d < 640, ∀ u < 129, al (d + 1) u = lae (al d u + sheared bl d u)
      (if u = 0 then ⊥ else al d (u - 1) + sheared lb d (u - 1)))
    (x y : ℕ) (hx : 1 ≤ x) (hx' : x ≤ 512) (hy : y ≤ 128)
    (c0 : ∀ u < 129, ac 0 u = 0)
    (cs : ∀ d < 640, ∀ u < 129, ac (d + 1) u = ac d u + if d = x + y - 1 ∧ u = y then al d u + sheared bl d u else 0) :
    ∀ u < 129, ac 640 u = if u = y then cell bl lb (x - 1) y + bl (x - 1) y else 0 := by
  intro u hu
  have hw := wave al h0 hs
  have key : ∀ d ≤ 640, ac d u = if x + y - 1 < d ∧ u = y then cell bl lb (x - 1) y + bl (x - 1) y else 0 := by
    intro d
    induction d with
    | zero => intro _; rw [c0 u hu, if_neg (by omega)]
    | succ d ih =>
      intro hd
      rw [cs d (by omega) u hu, ih (by omega)]
      by_cases h : d = x + y - 1 ∧ u = y
      · obtain ⟨rfl, rfl⟩ := h
        rw [if_neg (by omega), if_pos ⟨rfl, rfl⟩, if_pos ⟨by omega, rfl⟩, zero_add,
          (hw (x + u - 1) (by omega) u hu).2 (by omega) (by omega), sheared, if_pos ⟨by omega, by omega⟩,
          show x + u - 1 - u = x - 1 by omega]
      · rw [if_neg h, add_zero]
        refine if_congr ?_ rfl rfl
        constructor
        · rintro ⟨h1, h2⟩; exact ⟨by omega, h2⟩
        · rintro ⟨h1, h2⟩; exact ⟨by by_contra h3; exact h ⟨by omega, h2⟩, h2⟩
  rw [key 640 le_rfl]
  exact if_congr ⟨fun h => h.2, fun h => ⟨by omega, h⟩⟩ rfl rfl

/-- The values in the order of the row-by-row sweep, with the 129 that stand before the first frame. -/
def val (bl lb : ℕ → ℕ → EReal) (i : ℕ) : EReal :=
  if i < 129 then (if i = 0 then 0 else ⊥) else cell bl lb ((i - 129) / 129) ((i - 129) % 129)

/-- What the row-by-row sweep adds on the way down a frame, at cell number `k`. -/
def up (bl : ℕ → ℕ → EReal) (k : ℕ) : EReal := if k / 129 = 0 then 0 else bl (k / 129 - 1) (k % 129)

/-- What the row-by-row sweep adds on the way along a label, at cell number `k`. -/
def left (lb : ℕ → ℕ → EReal) (k : ℕ) : EReal := if k % 129 = 0 then ⊥ else lb (k / 129) (k % 129 - 1)

/-- A value after the first 129 is a cell. -/
theorem val_shift (k : ℕ) : val bl lb (k + 129) = cell bl lb (k / 129) (k % 129) := by
  rw [val, if_neg (by omega), Nat.add_sub_cancel]

/-- One step of the row-by-row sweep, from the value a whole row ago and the value just before. -/
theorem val_step (k : ℕ) : lae (val bl lb k + up bl k) (val bl lb (k + 128) + left lb k) = val bl lb (k + 129) := by
  rw [val_shift]
  have hk := Nat.div_add_mod k 129
  have hm : k % 129 < 129 := Nat.mod_lt _ (by norm_num)
  rcases ht : k / 129 with _ | t <;> rcases hu : k % 129 with _ | u
  · obtain rfl : k = 0 := by omega
    simp [val, up, left, lae_zero_bot, cell]
  · rw [up, left, if_pos ht, if_neg (by omega), ht, hu, Nat.add_sub_cancel,
      show k + 128 = u + 129 by omega, val_shift, show u / 129 = 0 by omega, show u % 129 = u by omega,
      val, if_pos (by omega), if_neg (by omega), EReal.bot_add, cell]
  · rw [up, left, if_neg (by omega), if_pos hu, EReal.add_bot, ht, hu, Nat.add_sub_cancel,
      show k = t * 129 + 129 by omega, val_shift, show t * 129 / 129 = t by omega, show t * 129 % 129 = 0 by omega, cell]
  · rw [up, left, if_neg (by omega), if_neg (by omega), ht, hu, Nat.add_sub_cancel, Nat.add_sub_cancel,
      show k + 128 = ((t + 1) * 129 + u) + 129 by omega, val_shift,
      show k = (t * 129 + (u + 1)) + 129 by omega, val_shift,
      show (t * 129 + (u + 1)) / 129 = t by omega, show (t * 129 + (u + 1)) % 129 = u + 1 by omega,
      show ((t + 1) * 129 + u) / 129 = t + 1 by omega, show ((t + 1) * 129 + u) % 129 = u by omega, cell]

/-- The row-by-row sweep ends with the blank at the last cell: it carries the last 129 values and takes the total at the
    one cell `(x - 1, y)`. -/
theorem sweep (last : ℕ → ℕ → EReal) (fin : ℕ → EReal)
    (x y : ℕ) (hx : 1 ≤ x) (hx' : x ≤ 512) (hy : y ≤ 128)
    (h0 : ∀ j < 129, last 0 j = if j = 0 then 0 else ⊥)
    (hs : ∀ k < 66048, ∀ j < 129, last (k + 1) j = if j < 128 then last k (j + 1)
      else lae (last k 0 + up bl k) (last k 128 + left lb k))
    (hf : ∀ k < 66048, fin (k + 1) = if k / 129 = x - 1 ∧ k % 129 = y
      then lae (last k 0 + up bl k) (last k 128 + left lb k) + bl (k / 129) (k % 129) else fin k) :
    fin 66048 = cell bl lb (x - 1) y + bl (x - 1) y := by
  have hl : ∀ k ≤ 66048, ∀ j < 129, last k j = val bl lb (k + j) := by
    intro k
    induction k with
    | zero => intro _ j hj; rw [h0 j hj, Nat.zero_add, val, if_pos hj]
    | succ k ih =>
      intro hk j hj
      rw [hs k (by omega) j hj]
      split
      · rw [ih (by omega) (j + 1) (by omega)]; congr 1; omega
      · obtain rfl : j = 128 := by omega
        rw [ih (by omega) 0 (by omega), ih (by omega) 128 (by omega), Nat.add_zero, val_step, Nat.add_assoc]
  have key : ∀ n, (x - 1) * 129 + y + 1 + n ≤ 66048 → fin ((x - 1) * 129 + y + 1 + n) = cell bl lb (x - 1) y + bl (x - 1) y := by
    intro n
    have hd : ((x - 1) * 129 + y) / 129 = x - 1 := by omega
    have hm : ((x - 1) * 129 + y) % 129 = y := by omega
    induction n with
    | zero =>
      intro hn
      rw [Nat.add_zero, hf _ (by omega), if_pos ⟨hd, hm⟩, hl _ (by omega) 0 (by omega), hl _ (by omega) 128 (by omega),
        Nat.add_zero, val_step, val_shift, hd, hm]
    | succ n ih =>
      intro hn
      rw [← Nat.add_assoc, hf _ (by omega), if_neg (by omega), ih (by omega)]
  have := key (66048 - ((x - 1) * 129 + y + 1)) (by omega)
  rwa [show (x - 1) * 129 + y + 1 + (66048 - ((x - 1) * 129 + y + 1)) = 66048 by omega] at this

end Cert.Proof.Wave

end
-- ==== Proof.KernelTable.lean ====
/- The kernel's two tables at the ideal carrier: a table's entry at diagonal `d` and place `u` is the cell at frame
   `d - u`, and −∞ off the grid. -/
module

public import proofs.«01_k».proof.Proof.Tower
public import proofs.«01_k».proof.Proof.Wave

@[expose] public section

set_option maxRecDepth 65536
set_option maxHeartbeats 400000

noncomputable section

namespace Cert.Proof.Tower

open Idealize.ShloMosaic Idealize.ShloMosaic.TcCoe Idealize.SL.Sem
open Cert.KernelIdeal Cert.KernelIdeal.Gen

/-- The named constant is minus infinity. -/
theorem neg_bot : (Named.named κ "neg" 0xF149F2CA#32 : Ideal .f32) = (⊥ : EReal) := rfl

/-- Eight stacked rows read at sequence `n`. -/
theorem rows_apply (r : Fin 8 → FVec Ideal S512x1x129 .f32) (t : Fin 512) (n : Fin 8) (u : Fin 129) :
    concatenate S512x8x129 1 [⟨S512x1x129, r 0⟩, ⟨S512x1x129, r 1⟩, ⟨S512x1x129, r 2⟩, ⟨S512x1x129, r 3⟩,
      ⟨S512x1x129, r 4⟩, ⟨S512x1x129, r 5⟩, ⟨S512x1x129, r 6⟩, ⟨S512x1x129, r 7⟩]
      concatenates_S512x1x129_S512x1x129_S512x1x129_S512x1x129_S512x1x129_S512x1x129_S512x1x129_S512x1x129_S512x8x129_d1
      (ix3 t n u) = r n (ix3 t 0 u) :=
  concatenate_ofFn_unit_apply (t := S512x8x129) (s₁ := S512x1x129) 1 r
    concatenates_S512x1x129_S512x1x129_S512x1x129_S512x1x129_S512x1x129_S512x1x129_S512x1x129_S512x1x129_S512x8x129_d1
    rfl rfl (ix3 t n u) n rfl (ix3 t 0 u) fun b hb => by
      match b with
      | ⟨0, _⟩ => rfl
      | ⟨1, _⟩ => exact absurd rfl hb
      | ⟨2, _⟩ => rfl

/-- Eight stacked label parts read at sequence `n`. -/
theorem parts_apply (r : Fin 8 → FVec Ideal S1x129 .f32) (n : Fin 8) (u : Fin 129) :
    stackParts r (ix2 n u) = r n (ix2 0 u) :=
  concatenate_ofFn_unit_apply (t := S8x129) (s₁ := S1x129) 0 r
    concatenates_S1x129_S1x129_S1x129_S1x129_S1x129_S1x129_S1x129_S1x129_S8x129_d0
    rfl rfl (ix2 n u) n rfl (ix2 0 u) fun b hb => by
      match b with
      | ⟨0, _⟩ => exact absurd rfl hb
      | ⟨1, _⟩ => rfl

/-- Eight stacked single values read at sequence `n`. -/
theorem tops_apply (r : Fin 8 → FVec Ideal S1x1 .f32) (n : Fin 8) :
    stackTops r (ix2 n 0) = r n (ix2 0 0) :=
  concatenate_ofFn_unit_apply (t := S8x1) (s₁ := S1x1) 0 r
    concatenates_S1x1_S1x1_S1x1_S1x1_S1x1_S1x1_S1x1_S1x1_S8x1_d0
    rfl rfl (ix2 n 0) n rfl (ix2 0 0) fun b hb => by
      match b with
      | ⟨0, _⟩ => exact absurd rfl hb
      | ⟨1, _⟩ => rfl

/-- The stacked table: the rows for 512 frames, −∞ after them. -/
theorem stack_apply (r : Fin 8 → FVec Ideal S512x1x129 .f32) (d : Fin 640) (n : Fin 8) (u : Fin 129) :
    stack r (ix3 d n u) = if h : d.val < 512 then r n (ix3 ⟨d.val, h⟩ 0 u) else (⊥ : EReal) := by
  unfold stack
  by_cases h : d.val < 512
  · rw [dif_pos h, concatenate_pair_apply_left (t := S640x8x129) (s₁ := S512x8x129) (s₂ := S128x8x129) 0 _ _ _ (ix3 d n u) rfl
      (ix3 ⟨d.val, h⟩ n u) fun b => by
        match b with
        | ⟨0, _⟩ => rfl
        | ⟨1, _⟩ => rfl
        | ⟨2, _⟩ => rfl]
    exact rows_apply r ⟨d.val, h⟩ n u
  · have hd := d.isLt
    rw [dif_neg h, concatenate_pair_apply_right (t := S640x8x129) (s₁ := S512x8x129) (s₂ := S128x8x129) 0 _ _ _ (ix3 d n u) rfl rfl
      (ix3 ⟨d.val - 512, by omega⟩ n u) (fun b hb => by
        match b with
        | ⟨0, _⟩ => exact absurd rfl hb
        | ⟨1, _⟩ => rfl
        | ⟨2, _⟩ => rfl) (show d.val - 512 + 512 = d.val by omega)]
    rfl

/-- The mask of bit `m` holds at the places whose number has that bit. -/
theorem bit_apply : ∀ m : Fin 8, ∀ u : Fin 129,
    bit (BitVec.ofNat 32 (2 ^ m.val)) (ix3 0 0 u) = BitVec.ofBool (decide ((u.val / 2 ^ m.val) % 2 = 1)) := by
  have h : ∀ m : Fin 8, ∀ u : Fin 129,
      IntOp.cmpi .ne (IntOp.andi (BitVec.ofNat 32 u.val) (BitVec.ofNat 32 (2 ^ m.val))) 0#32
        = BitVec.ofBool (decide ((u.val / 2 ^ m.val) % 2 = 1)) := by decide +kernel
  intro m u
  refine Eq.trans ?_ (h m u)
  have e : places (ix3 0 0 u) = BitVec.ofNat 32 u.val := by
    refine congrArg (BitVec.ofNat 32) ?_
    show 0 * 129 + u.val = u.val
    omega
  show IntOp.cmpi .ne (IntOp.andi (places (ix3 0 0 u)) _) 0#32 = _
  rw [e]
  rfl

/-- One shear read at a diagonal. -/
theorem shear_apply (sh p : ℕ) (hp : sh + p = 640) (hs : S640x8x129.Slices ![0, 0, 0] ⟨3, ![p, 8, 129]⟩)
    (hc : Shape.Concatenates [⟨3, ![sh, 8, 129]⟩, ⟨3, ![p, 8, 129]⟩] S640x8x129 0) (b : BitVec 32)
    (X : FVec Ideal S640x8x129 .f32) (d : Fin 640) (n : Fin 8) (u : Fin 129) :
    shear ⟨3, ![sh, 8, 129]⟩ ⟨3, ![p, 8, 129]⟩ hs hc b X (ix3 d n u)
      = if bit b (ix3 0 0 u) = 1#1 then
          (if sh ≤ d.val then X (ix3 ⟨d.val - sh, by have := d.isLt; omega⟩ n u) else (⊥ : EReal))
        else X (ix3 d n u) := by
  have hd := d.isLt
  have hm : broadcastTo S640x8x129 (shapeCast S1x1x129 (bit b) shapeCasts_S1x1x129_S1x1x129)
      broadcasts_S1x1x129_S640x8x129 (ix3 d n u) = bit b (ix3 0 0 u) := by
    rw [shapeCast_self]
    exact broadcastTo_apply _ _ _ (ix3 0 0 u) fun a => by
      match a with
      | ⟨0, _⟩ => rfl
      | ⟨1, _⟩ => rfl
      | ⟨2, _⟩ => rfl
  have hx : concatenate S640x8x129 0 [⟨⟨3, ![sh, 8, 129]⟩, broadcast _ (Named.named κ "neg" 0xF149F2CA#32)⟩,
        ⟨⟨3, ![p, 8, 129]⟩, extractStridedSlice _ ![0, 0, 0] X hs⟩] hc (ix3 d n u)
      = if sh ≤ d.val then X (ix3 ⟨d.val - sh, by omega⟩ n u) else (⊥ : EReal) := by
    by_cases h : sh ≤ d.val
    · rw [if_pos h, concatenate_pair_apply_right (t := S640x8x129) (s₁ := ⟨3, ![sh, 8, 129]⟩) (s₂ := ⟨3, ![p, 8, 129]⟩) 0 _ _ _ (ix3 d n u) rfl rfl
        (ix3 ⟨d.val - sh, by omega⟩ n u) (fun b hb => by
          match b with
          | ⟨0, _⟩ => exact absurd rfl hb
          | ⟨1, _⟩ => rfl
          | ⟨2, _⟩ => rfl) (show d.val - sh + sh = d.val by omega)]
      exact extractStridedSlice_apply _ _ _ _ _ fun a => by
        match a with
        | ⟨0, _⟩ => exact (Nat.zero_add _).symm
        | ⟨1, _⟩ => exact (Nat.zero_add _).symm
        | ⟨2, _⟩ => exact (Nat.zero_add _).symm
    · rw [if_neg h, concatenate_pair_apply_left (t := S640x8x129) (s₁ := ⟨3, ![sh, 8, 129]⟩) (s₂ := ⟨3, ![p, 8, 129]⟩) 0 _ _ _ (ix3 d n u) rfl
        (ix3 ⟨d.val, by omega⟩ n u) fun b => by
          match b with
          | ⟨0, _⟩ => rfl
          | ⟨1, _⟩ => rfl
          | ⟨2, _⟩ => rfl]
      rfl
  unfold shear
  show Scalar.select (broadcastTo S640x8x129 (shapeCast S1x1x129 (bit b) shapeCasts_S1x1x129_S1x1x129)
      broadcasts_S1x1x129_S640x8x129 (ix3 d n u)) _ (X (ix3 d n u)) = _
  rw [hm, hx]
  rfl

/-- After the first `m` bits, place `u` has moved down by the low `m` bits of `u`. -/
def Moved (m : ℕ) (X Y : FVec Ideal S640x8x129 .f32) : Prop :=
  ∀ (d : Fin 640) (n : Fin 8) (u : Fin 129), Y (ix3 d n u)
    = if u.val % 2 ^ m ≤ d.val then X (ix3 ⟨d.val - u.val % 2 ^ m, by have := d.isLt; omega⟩ n u) else (⊥ : EReal)

/-- One more bit. -/
theorem moved_succ (m : Fin 8) (p : ℕ) (hp : 2 ^ m.val + p = 640) (hs : S640x8x129.Slices ![0, 0, 0] ⟨3, ![p, 8, 129]⟩)
    (hc : Shape.Concatenates [⟨3, ![2 ^ m.val, 8, 129]⟩, ⟨3, ![p, 8, 129]⟩] S640x8x129 0)
    (X Y : FVec Ideal S640x8x129 .f32) (h : Moved m.val X Y) :
    Moved (m.val + 1) X (shear ⟨3, ![2 ^ m.val, 8, 129]⟩ ⟨3, ![p, 8, 129]⟩ hs hc (BitVec.ofNat 32 (2 ^ m.val)) Y) := by
  intro d n u
  have hd := d.isLt
  rw [shear_apply _ _ hp, bit_apply]
  have hmod : u.val % 2 ^ (m.val + 1) = u.val % 2 ^ m.val + 2 ^ m.val * (u.val / 2 ^ m.val % 2) := Nat.mod_pow_succ
  have hlt : u.val / 2 ^ m.val % 2 < 2 := Nat.mod_lt _ (by omega)
  by_cases hb : u.val / 2 ^ m.val % 2 = 1
  · rw [decide_eq_true hb, if_pos (show BitVec.ofBool true = 1#1 from rfl)]
    rw [hb, Nat.mul_one] at hmod
    by_cases hle : 2 ^ m.val ≤ d.val
    · rw [if_pos hle, h]
      by_cases h2 : u.val % 2 ^ (m.val + 1) ≤ d.val
      · rw [if_pos h2, if_pos (by show _ ≤ d.val - 2 ^ m.val; omega)]
        exact congrArg X (congrArg (fun z => ix3 z n u) (Fin.ext (show d.val - 2 ^ m.val - u.val % 2 ^ m.val
          = d.val - u.val % 2 ^ (m.val + 1) by rw [hmod]; omega)))
      · rw [if_neg h2, if_neg (by show ¬ _ ≤ d.val - 2 ^ m.val; omega)]
    · rw [if_neg hle, if_neg (by omega)]
  · have h0 : u.val / 2 ^ m.val % 2 = 0 := by omega
    rw [decide_eq_false hb, if_neg (by decide), h]
    rw [h0, Nat.mul_zero] at hmod
    have hm2 : u.val % 2 ^ (m.val + 1) = u.val % 2 ^ m.val := hmod
    simp only [hm2]

/-- All eight shears: place `u` has moved down by `u`. -/
theorem sheared_apply (X : FVec Ideal S640x8x129 .f32) (d : Fin 640) (n : Fin 8) (u : Fin 129) :
    sheared X (ix3 d n u)
      = if u.val ≤ d.val then X (ix3 ⟨d.val - u.val, by have := d.isLt; omega⟩ n u) else (⊥ : EReal) := by
  have h0 : Moved 0 X X := fun d n u => by
    have hu : u.val % 2 ^ 0 = 0 := by rw [pow_zero, Nat.mod_one]
    rw [if_pos (by omega)]
    exact congrArg X (congrArg (fun z => ix3 z n u) (Fin.ext (show d.val = d.val - u.val % 2 ^ 0 by omega)))
  have h1 := moved_succ 0 639 rfl slices_S640x8x129_o0_0_0_S639x8x129 concatenates_S1x8x129_S639x8x129_S640x8x129_d0 X _ h0
  have h2 := moved_succ 1 638 rfl slices_S640x8x129_o0_0_0_S638x8x129 concatenates_S2x8x129_S638x8x129_S640x8x129_d0 X _ h1
  have h3 := moved_succ 2 636 rfl slices_S640x8x129_o0_0_0_S636x8x129 concatenates_S4x8x129_S636x8x129_S640x8x129_d0 X _ h2
  have h4 := moved_succ 3 632 rfl slices_S640x8x129_o0_0_0_S632x8x129 concatenates_S8x8x129_S632x8x129_S640x8x129_d0 X _ h3
  have h5 := moved_succ 4 624 rfl slices_S640x8x129_o0_0_0_S624x8x129 concatenates_S16x8x129_S624x8x129_S640x8x129_d0 X _ h4
  have h6 := moved_succ 5 608 rfl slices_S640x8x129_o0_0_0_S608x8x129 concatenates_S32x8x129_S608x8x129_S640x8x129_d0 X _ h5
  have h7 := moved_succ 6 576 rfl slices_S640x8x129_o0_0_0_S576x8x129 concatenates_S64x8x129_S576x8x129_S640x8x129_d0 X _ h6
  have h8 := moved_succ 7 512 rfl slices_S640x8x129_o0_0_0_S512x8x129 concatenates_S128x8x129_S512x8x129_S640x8x129_d0 X _ h7
  have e := h8 d n u
  have hu : u.val % 2 ^ ((7 : Fin 8).val + 1) = u.val := Nat.mod_eq_of_lt (show u.val < 256 by have := u.isLt; omega)
  simp only [hu] at e
  exact e

/-- A stacked and sheared table with its label parts: the cell at frame `d - u`, −∞ off the grid. -/
theorem entry (rows : Fin 8 → FVec Ideal S512x1x129 .f32) (c : EReal) (S : ℕ → ℕ → EReal) (n : Fin 8) (u : Fin 129)
    (hS : ∀ t : Fin 512, rows n (ix3 t 0 u) + c = S t.val u.val) (d : Fin 640) :
    (sheared (stack rows) (ix3 d n u) : EReal) + c = Wave.sheared S d.val u.val := by
  rw [sheared_apply]
  unfold Wave.sheared
  by_cases h : u.val ≤ d.val
  · rw [if_pos h, stack_apply]
    by_cases h2 : d.val - u.val < 512
    · rw [dif_pos h2, if_pos ⟨h, h2⟩]
      exact hS ⟨d.val - u.val, h2⟩
    · rw [dif_neg h2, if_neg fun h3 => h2 h3.2, EReal.bot_add]
  · rw [if_neg h, if_neg fun h3 => h h3.1, EReal.bot_add]

/-- The blank table's entry. -/
theorem tableB_apply (l0 : FVec Ideal S8x129 .f32) (bm : FVec Ideal S8x1 .f32) (X : FVec Ideal S640x8x129 .f32)
    (d : Fin 640) (n : Fin 8) (u : Fin 129) :
    tableB l0 bm X (ix3 d n u) = X (ix3 d n u) + (l0 (ix2 n u) - bm (ix2 n 0)) := by
  unfold tableB
  simp only [pointwise]
  rfl

/-- The label table's entry. -/
theorem tableL_apply (yl : IVec S8x1 32) (ly : FVec Ideal S8x129 .f32) (bm : FVec Ideal S8x1 .f32)
    (X : FVec Ideal S640x8x129 .f32) (d : Fin 640) (n : Fin 8) (u : Fin 129) :
    tableL yl ly bm X (ix3 d n u)
      = Scalar.select (IntOp.cmpi .slt (BitVec.ofNat 32 u.val) (yl (ix2 n 0)))
          (X (ix3 d n u) + (ly (ix2 n u) - bm (ix2 n 0))) (⊥ : EReal) := by
  unfold tableL
  simp only [pointwise]
  have e : BitVec.ofNat 32 (List.foldl (fun m a => m * S8x129.size a + (ix2 n u a).val) 0 [1]) = BitVec.ofNat 32 u.val :=
    congrArg (BitVec.ofNat 32) (show 0 * 129 + u.val = u.val by omega)
  rw [← e]
  rfl

/-- A place below the label count, as words. -/
theorem slt_word (u y : ℕ) (hu : u < 129) (hy : y ≤ 128) :
    IntOp.cmpi .slt (BitVec.ofNat 32 u) (BitVec.ofNat 32 y) = BitVec.ofBool (decide (u < y)) := by
  have h : ∀ a : Fin 129, ∀ b : Fin 129,
      IntOp.cmpi .slt (BitVec.ofNat 32 a.val) (BitVec.ofNat 32 b.val) = BitVec.ofBool (decide (a.val < b.val)) := by
    decide +kernel
  exact h ⟨u, hu⟩ ⟨y, by omega⟩

/-- The blank table holds the blank cells by diagonal. -/
theorem tableB_eq (rows : Fin 8 → FVec Ideal S512x1x129 .f32) (parts : Fin 8 → FVec Ideal S1x129 .f32)
    (tops : Fin 8 → FVec Ideal S1x1 .f32) (S : ℕ → ℕ → EReal) (n : Fin 8)
    (hS : ∀ (t : Fin 512) (u : Fin 129), rows n (ix3 t 0 u) + (parts n (ix2 0 u) - tops n (ix2 0 0)) = S t.val u.val)
    (d : Fin 640) (u : Fin 129) :
    tableB (stackParts parts) (stackTops tops) (sheared (stack rows)) (ix3 d n u) = Wave.sheared S d.val u.val := by
  rw [tableB_apply, parts_apply, tops_apply]
  exact entry rows _ S n u (fun t => hS t u) d

/-- The label table holds the label cells by diagonal, −∞ at and past the label count. -/
theorem tableL_eq (yl : IVec S8x1 32) (rows : Fin 8 → FVec Ideal S512x1x129 .f32) (parts : Fin 8 → FVec Ideal S1x129 .f32)
    (tops : Fin 8 → FVec Ideal S1x1 .f32) (S : ℕ → ℕ → EReal) (n : Fin 8) (y : ℕ) (hy : y ≤ 128)
    (hyl : yl (ix2 n 0) = BitVec.ofNat 32 y)
    (hS : ∀ (t : Fin 512) (u : Fin 129), rows n (ix3 t 0 u) + (parts n (ix2 0 u) - tops n (ix2 0 0)) = S t.val u.val)
    (d : Fin 640) (u : Fin 129) :
    tableL yl (stackParts parts) (stackTops tops) (sheared (stack rows)) (ix3 d n u)
      = Wave.sheared (fun t u => if u < y then S t u else ⊥) d.val u.val := by
  rw [tableL_apply, parts_apply, tops_apply, hyl, slt_word _ _ u.isLt hy, entry rows _ S n u (fun t => hS t u) d]
  unfold Wave.sheared
  by_cases h : u.val < y
  · simp only [if_pos h, decide_eq_true h]
    rfl
  · simp only [if_neg h, decide_eq_false h, ite_self]
    rfl

end Cert.Proof.Tower
-- ==== Proof.KernelWave.lean ====
/- The kernel's sweep at the ideal carrier: its state is the forward recursion by diagonals, and the result is minus the
   sum of the sequences' log-likelihoods. -/
module

public import proofs.«01_k».proof.Proof.KernelRun
public import proofs.«01_k».proof.Proof.KernelRows
public import proofs.«01_k».proof.Proof.KernelTable

@[expose] public section

set_option maxRecDepth 65536
set_option maxHeartbeats 400000

noncomputable section

namespace Cert.Proof.Tower

open Idealize.ShloMosaic Idealize.ShloMosaic.TcCoe Idealize.SL.Sem
open Cert.KernelIdeal Cert.KernelIdeal.Gen Cert.Proof.Score

/-- The loop runs 640 times. -/
theorem trips_eq : k0_t1_loop.trips = 640 := by decide +kernel

/-- Diagonal `k` starts at row `k`. -/
theorem off_eq : ∀ k : Fin k0_t1_loop.trips, k0_off1 k = ![k.val, 0, 0] := by decide +kernel

/-- Diagonal `k` of a table. -/
theorem diag_apply (S : FVec Ideal S640x8x129 .f32) (k : Fin k0_t1_loop.trips) (n : Fin 8) (u : Fin 129) :
    diag S k (ix3 0 n u) = S (ix3 ⟨k.val, lt_of_lt_of_eq k.isLt trips_eq⟩ n u) := by
  have h := off_eq k
  refine congrArg S (funext fun a => Fin.ext ?_)
  match a with
  | ⟨0, _⟩ =>
    show k0_off1 k 0 + 1 * 0 = k.val
    rw [h]; rfl
  | ⟨1, _⟩ =>
    show k0_off1 k 1 + 1 * n.val = n.val
    rw [h]; show 0 + 1 * n.val = n.val; omega
  | ⟨2, _⟩ =>
    show k0_off1 k 2 + 1 * u.val = u.val
    rw [h]; show 0 + 1 * u.val = u.val; omega

/-- One step of the forward variable. -/
theorem step_apply (a : FVec Ideal S8x129 .f32) (B L : FVec Ideal S1x8x129 .f32) (n : Fin 8) (u : Fin 129) :
    k0_pay3 (k0_pay130 (F := Ideal)) a B L (ix2 n u)
      = Wave.lae (a (ix2 n u) + B (ix3 0 n u))
          (if h : u.val = 0 then ⊥ else
            a (ix2 n ⟨u.val - 1, by have := u.isLt; omega⟩) + L (ix3 0 n ⟨u.val - 1, by have := u.isLt; omega⟩)) := by
  have hb : k0_pay1 a B (ix2 n u) = a (ix2 n u) + B (ix3 0 n u) := by
    unfold k0_pay1
    simp only [pointwise]
  have hu := u.isLt
  have hc : ∀ X : FVec Ideal S8x129 .f32, concatenate S8x129 1 [⟨S8x1, k0_pay130 (F := Ideal)⟩,
      ⟨S8x128, extractStridedSlice S8x128 ![0, 0] X slices_S8x129_o0_0_S8x128⟩] concatenates_S8x1_S8x128_S8x129_d1 (ix2 n u)
      = if h : u.val = 0 then (⊥ : EReal) else X (ix2 n ⟨u.val - 1, by omega⟩) := fun X => by
    by_cases h : u.val = 0
    · rw [dif_pos h, concatenate_pair_apply_left (t := S8x129) (s₁ := S8x1) (s₂ := S8x128) 1 _ _ _ (ix2 n u) rfl
        (ix2 n 0) fun b => by
          match b with
          | ⟨0, _⟩ => rfl
          | ⟨1, _⟩ => exact h.symm]
      rfl
    · rw [dif_neg h, concatenate_pair_apply_right (t := S8x129) (s₁ := S8x1) (s₂ := S8x128) 1 _ _ _ (ix2 n u) rfl rfl
        (ix2 n ⟨u.val - 1, by omega⟩) (fun b hb => by
          match b with
          | ⟨0, _⟩ => rfl
          | ⟨1, _⟩ => exact absurd rfl hb) (show u.val - 1 + 1 = u.val by omega)]
      exact extractStridedSlice_apply _ _ _ _ _ fun a => by
        match a with
        | ⟨0, _⟩ => exact (Nat.zero_add _).symm
        | ⟨1, _⟩ => exact (Nat.zero_add _).symm
  have h0 : ∀ p q : EReal, max p q + Ideal.log1p (Ideal.exp (0 - max (p - q) (-(p - q)))) = Wave.lae p q := fun p q => by
    rw [zero_sub]
    rfl
  rw [← hb]
  have hs : ∀ X : FVec Ideal S8x129 .f32, X = addf a (shapeCast S8x129 L shapeCasts_S1x8x129_S8x129) →
      ∀ w : Fin 129, X (ix2 n w) = a (ix2 n w) + L (ix3 0 n w) := fun X hX w => by
    rw [hX]
    simp only [pointwise]
  unfold k0_pay3
  generalize hX : addf a (shapeCast S8x129 L shapeCasts_S1x8x129_S8x129) = X
  generalize k0_pay1 a B = Z
  rw [← h0]
  have hcx := hc X
  simp only [hs X hX.symm] at hcx
  rw [← hcx]
  generalize concatenate S8x129 1 [⟨S8x1, k0_pay130 (F := Ideal)⟩,
      ⟨S8x128, extractStridedSlice S8x128 ![0, 0] X slices_S8x129_o0_0_S8x128⟩] concatenates_S8x1_S8x128_S8x129_d1 = Y
  simp only [pointwise]
  rfl

/-- One step of the collected final values. -/
theorem take_apply (dl : IVec S8x1 32) (ul : IVec S8x129 1) (k : Fin k0_t1_loop.trips) (a b : FVec Ideal S8x129 .f32)
    (B : FVec Ideal S1x8x129 .f32) (n : Fin 8) (u : Fin 129) :
    k0_pay2 dl ul 0#32 k a b B (ix2 n u)
      = b (ix2 n u) + Scalar.select (IntOp.andi (IntOp.cmpi .eq (dl (ix2 n 0)) (Scf.iv 0#32 1#32 k.val)) (ul (ix2 n u)))
          (a (ix2 n u) + B (ix3 0 n u)) (0 : EReal) := by
  have hb : k0_pay1 a B (ix2 n u) = a (ix2 n u) + B (ix3 0 n u) := by
    unfold k0_pay1
    simp only [pointwise]
  rw [← hb]
  unfold k0_pay2
  generalize k0_pay1 a B = Z
  simp only [pointwise]
  rfl

/-- The result from the collected final values. -/
theorem sum_apply (f : FVec Ideal S8x129 .f32) : k0_pay4 f (ix2 0 0) = 0 - ∑ n : Fin 8, ∑ u : Fin 129, f (ix2 n u) := by
  unfold k0_pay4
  simp only [pointwise]

/-- The forward variable's start. -/
theorem start_apply (n : Fin 8) (u : Fin 129) :
    k0_pay128 (F := Ideal) (ix2 n u) = if u.val = 0 then (0 : EReal) else ⊥ := by
  have e : ∀ u : Fin 129, IntOp.cmpi .eq (BitVec.ofNat 32 u.val) 0#32 = BitVec.ofBool (decide (u.val = 0)) := by
    decide +kernel
  unfold k0_pay128
  simp only [pointwise]
  have e2 : BitVec.ofNat 32 (List.foldl (fun m a => m * S8x129.size a + (ix2 n u a).val) 0 [1]) = BitVec.ofNat 32 u.val :=
    congrArg (BitVec.ofNat 32) (show 0 * 129 + u.val = u.val by omega)
  have e3 := e u
  rw [← e2] at e3
  by_cases h : u.val = 0
  · rw [if_pos h]
    rw [decide_eq_true h] at e3
    exact congrArg (fun c => Scalar.select c (0 : EReal) ⊥) e3
  · rw [if_neg h]
    rw [decide_eq_false h] at e3
    exact congrArg (fun c => Scalar.select c (0 : EReal) ⊥) e3

/-- The collected final values' start. -/
theorem zero_start (n : Fin 8) (u : Fin 129) : k0_pay129 (F := Ideal) (ix2 n u) = (0 : EReal) := by
  unfold k0_pay129
  simp only [pointwise]

/-- The places at a label count. -/
theorem at_apply (yl : IVec S8x1 32) (n : Fin 8) (u : Fin 129) (y : ℕ) (hy : y ≤ 128)
    (hyl : yl (ix2 n 0) = BitVec.ofNat 32 y) :
    k0_pay127 yl (ix2 n u) = BitVec.ofBool (decide (u.val = y)) := by
  have e : ∀ u : Fin 129, ∀ y : Fin 129,
      IntOp.cmpi .eq (BitVec.ofNat 32 u.val) (BitVec.ofNat 32 y.val) = BitVec.ofBool (decide (u.val = y.val)) := fun u y =>
    congrArg BitVec.ofBool (decide_eq_decide.2 ((word_eq' u y).trans Fin.ext_iff))
  unfold k0_pay127
  simp only [pointwise]
  have e2 : BitVec.ofNat 32 (List.foldl (fun m a => m * S8x129.size a + (ix2 n u a).val) 0 [1]) = BitVec.ofNat 32 u.val :=
    congrArg (BitVec.ofNat 32) (show 0 * 129 + u.val = u.val by omega)
  rw [← e u ⟨y, by omega⟩, ← e2, ← hyl]
  rfl

/-- The last diagonal of a sequence, as words. -/
theorem last_word (xl yl : IVec S8x1 32) (n : Fin 8) (x y d : ℕ) (hx : 1 ≤ x) (hx' : x ≤ 512) (hy : y ≤ 128) (hd : d < 640)
    (hxl : xl (ix2 n 0) = BitVec.ofNat 32 x) (hyl : yl (ix2 n 0) = BitVec.ofNat 32 y) :
    IntOp.cmpi .eq (k0_pay126 xl yl (ix2 n 0)) (Scf.iv 0#32 1#32 d) = BitVec.ofBool (decide (d = x + y - 1)) := by
  have h1 : k0_pay126 xl yl (ix2 n 0) = BitVec.ofNat 32 (x + y - 1) := by
    show xl (ix2 n 0) + yl (ix2 n 0) - 1#32 = _
    rw [hxl, hyl]
    apply BitVec.eq_of_toNat_eq
    simp only [BitVec.toNat_sub, BitVec.toNat_add, BitVec.toNat_ofNat]
    omega
  have h2 : Scf.iv 0#32 1#32 d = BitVec.ofNat 32 d := by
    unfold Scf.iv
    apply BitVec.eq_of_toNat_eq
    simp only [BitVec.toNat_mul, BitVec.toNat_add, BitVec.toNat_ofNat]
    omega
  rw [h1, h2]
  refine congrArg BitVec.ofBool (decide_eq_decide.2 ⟨fun h => ?_, fun h => by rw [h]⟩)
  have := congrArg BitVec.toNat h
  rw [BitVec.toNat_ofNat, BitVec.toNat_ofNat, Nat.mod_eq_of_lt (by omega), Nat.mod_eq_of_lt (by omega)] at this
  exact this.symm

/-- The collected final values of the whole sweep. -/
theorem waves_last (xl yl : IVec S8x1 32) (SB SL : FVec Ideal S640x8x129 .f32) (B L : ℕ → ℕ → EReal) (n : Fin 8)
    (x y : ℕ) (hx : 1 ≤ x) (hx' : x ≤ 512) (hy : y ≤ 128)
    (hxl : xl (ix2 n 0) = BitVec.ofNat 32 x) (hyl : yl (ix2 n 0) = BitVec.ofNat 32 y)
    (hB : ∀ (d : Fin 640) (u : Fin 129), SB (ix3 d n u) = Wave.sheared B d.val u.val)
    (hL : ∀ (d : Fin 640) (u : Fin 129), SL (ix3 d n u) = Wave.sheared L d.val u.val) (u : Fin 129) :
    (waves (k0_pay126 xl yl) (k0_pay127 yl) SB SL k0_t1_loop.trips).2 (ix2 n u)
      = if u.val = y then Wave.cell B L (x - 1) y + B (x - 1) y else (0 : EReal) := by
  have hk : ∀ d (h : d < 640), d < k0_t1_loop.trips := fun d h => by rw [trips_eq]; exact h
  let al : ℕ → ℕ → EReal := fun d u => if h : u < 129 then (waves (k0_pay126 xl yl) (k0_pay127 yl) SB SL d).1 (ix2 n ⟨u, h⟩) else 0
  let ac : ℕ → ℕ → EReal := fun d u => if h : u < 129 then (waves (k0_pay126 xl yl) (k0_pay127 yl) SB SL d).2 (ix2 n ⟨u, h⟩) else 0
  have hw : ∀ d (h : d < 640), waves (k0_pay126 xl yl) (k0_pay127 yl) SB SL (d + 1)
      = wave (k0_pay126 xl yl) (k0_pay127 yl) SB SL ⟨d, hk d h⟩ (waves (k0_pay126 xl yl) (k0_pay127 yl) SB SL d) := fun d h =>
    dif_pos (hk d h)
  have ha : ∀ d u (hu : u < 129), al d u = (waves (k0_pay126 xl yl) (k0_pay127 yl) SB SL d).1 (ix2 n ⟨u, hu⟩) :=
    fun d u hu => dif_pos hu
  have hc : ∀ d u (hu : u < 129), ac d u = (waves (k0_pay126 xl yl) (k0_pay127 yl) SB SL d).2 (ix2 n ⟨u, hu⟩) :=
    fun d u hu => dif_pos hu
  have h0 : ∀ u < 129, al 0 u = if u = 0 then 0 else ⊥ := fun u hu => (ha 0 u hu).trans (start_apply n ⟨u, hu⟩)
  have hs : ∀ d < 640, ∀ u < 129, al (d + 1) u = Wave.lae (al d u + Wave.sheared B d u)
      (if u = 0 then ⊥ else al d (u - 1) + Wave.sheared L d (u - 1)) := by
    intro d hd u hu
    rw [ha (d + 1) u hu, hw d hd]
    refine (step_apply _ _ _ n ⟨u, hu⟩).trans ?_
    rw [diag_apply, hB, ha d u hu]
    refine congrArg (Wave.lae _) ?_
    by_cases h : u = 0
    · rw [dif_pos h, if_pos h]
    · rw [dif_neg h, if_neg h, diag_apply, hL, ha d (u - 1) (by omega)]
  have c0 : ∀ u < 129, ac 0 u = 0 := fun u hu => by
    rw [hc 0 u hu]
    exact zero_start n ⟨u, hu⟩
  have cs : ∀ d < 640, ∀ u < 129, ac (d + 1) u
      = ac d u + if d = x + y - 1 ∧ u = y then al d u + Wave.sheared B d u else 0 := by
    intro d hd u hu
    rw [hc (d + 1) u hu, hw d hd, hc d u hu, ha d u hu]
    refine (take_apply _ _ _ _ _ _ n ⟨u, hu⟩).trans ?_
    rw [diag_apply, hB, last_word xl yl n x y d hx hx' hy hd hxl hyl, at_apply yl n ⟨u, hu⟩ y hy hyl]
    refine congrArg (_ + ·) ?_
    by_cases h1 : d = x + y - 1
    · by_cases h2 : u = y
      · rw [if_pos ⟨h1, h2⟩, decide_eq_true h1, decide_eq_true h2]
        rfl
      · rw [if_neg (fun h => h2 h.2), decide_eq_true h1, decide_eq_false h2]
        rfl
    · rw [if_neg (fun h => h1 h.1), decide_eq_false h1]
      by_cases h2 : u = y
      · rw [decide_eq_true h2]
        rfl
      · rw [decide_eq_false h2]
        rfl
  have key := Wave.total al ac h0 hs x y hx hx' hy c0 cs u.val u.isLt
  rw [trips_eq]
  have e : ac 640 u.val = (waves (k0_pay126 xl yl) (k0_pay127 yl) SB SL 640).2 (ix2 n u) := dif_pos u.isLt
  rw [← e, key]

/-- The word of sequence `n` at place `u`. -/
theorem word_apply (x : Vec Ideal S8x129x1 .i32) (n : Fin 8) (u : Fin 129) : wordRow (F := Ideal) x n (ix3 0 u 0) = x (ix3 n u 0) := by
  refine congrArg x (funext fun a => Fin.ext ?_)
  match a with
  | ⟨0, _⟩ => exact Nat.add_zero _
  | ⟨1, _⟩ => show 0 + 1 * u.val = u.val; omega
  | ⟨2, _⟩ => rfl

section
variable (x0 : Vec Ideal S4096x80 .f32) (x1 x2 : Vec Ideal S8x1 .i32) (x3 x4 : Vec Ideal S8x129x1 .i32)
  (x5 : Vec Ideal S80x512 .f32) (x6 : Vec Ideal S1x512 .f32)
  (x7 : Vec Ideal S500x512 .f32) (x8 : Vec Ideal S512x500 .f32) (x9 : Vec Ideal S1x500 .f32)
  (x10 : Vec Ideal S512x500 .f32) (x11 : Vec Ideal S1x500 .f32)
  (X : Fin 4096 → Fin 80 → ℝ) (We : Fin 80 → Fin 512 → ℝ) (be : Fin 512 → ℝ) (E : Fin 500 → Fin 512 → ℝ)
  (Wa : Fin 512 → Fin 500 → ℝ) (ba : Fin 500 → ℝ) (Wl : Fin 512 → Fin 500 → ℝ) (bl : Fin 500 → ℝ)
  (h0 : ∀ r i, x0 (ix2 r i) = (X r i : EReal)) (h5 : ∀ i j, x5 (ix2 i j) = (We i j : EReal))
  (h6 : ∀ j, x6 (ix2 0 j) = (be j : EReal)) (h7 : ∀ a j, x7 (ix2 a j) = (E a j : EReal))
  (h8 : ∀ j k, x8 (ix2 j k) = (Wa j k : EReal)) (h9 : ∀ k, x9 (ix2 0 k) = (ba k : EReal))
  (h10 : ∀ j k, x10 (ix2 j k) = (Wl j k : EReal)) (h11 : ∀ k, x11 (ix2 0 k) = (bl k : EReal))
  (x y : Fin 8 → ℕ) (v w : Fin 8 → Fin 129 → Fin 500)
  (hx : ∀ n, 1 ≤ x n) (hx' : ∀ n, x n ≤ 512) (hy : ∀ n, y n ≤ 128)
  (h1 : ∀ n, x1 (ix2 n 0) = BitVec.ofNat 32 (x n)) (h2 : ∀ n, x2 (ix2 n 0) = BitVec.ofNat 32 (y n))
  (h3 : ∀ n u, x3 (ix3 n u 0) = BitVec.ofNat 32 (v n u).val) (h4 : ∀ n u, x4 (ix3 n u 0) = BitVec.ofNat 32 (w n u).val)
include h0 h5 h6 h7 h8 h9 h10 h11 hx hx' hy h1 h2 h3 h4

/-- The kernel's result: minus the sum of the sequences' log-likelihoods, for any cells that hold the scores. -/
theorem result_eq (B L : Fin 8 → ℕ → ℕ → EReal)
    (hB : ∀ n (t : Fin 512) (u : Fin 129), B n t.val u.val
      = score (fun k => acoustic (X (frame n t)) We be (fun j => Wa j k) (ba k))
          (fun k => lexical (E (v n u)) (fun j => Wl j k) (bl k)) 0)
    (hL : ∀ n (t : Fin 512) (u : Fin 129), L n t.val u.val
      = score (fun k => acoustic (X (frame n t)) We be (fun j => Wa j k) (ba k))
          (fun k => lexical (E (v n u)) (fun j => Wl j k) (bl k)) (w n u)) :
    result x0 x1 x2 x3 x4 x5 x6 x7 x8 x9 x10 x11 (ix2 0 0)
      = 0 - ∑ n : Fin 8, (Wave.cell (B n) (fun t u => if u < y n then L n t u else ⊥) (x n - 1) (y n) + B n (x n - 1) (y n)) := by
  have hv : ∀ n u, wordRow (F := Ideal) x3 n (ix3 0 u 0) = BitVec.ofNat 32 (v n u).val := fun n u => by rw [word_apply, h3]
  have hw : ∀ n u, wordRow (F := Ideal) x4 n (ix3 0 u 0) = BitVec.ofNat 32 (w n u).val := fun n u => by rw [word_apply, h4]
  choose mx hmx using tops_real x0 x5 x6 x8 x9 X We be Wa ba h0 h5 h6 h8 h9
  have ham := acoustics x0 x5 x6 x8 x9 X We be Wa ba h0 h5 h6 h8 h9
  have hP := lexicals x7 x10 x11 E Wl bl h7 h10 h11
  have hE := exps x0 x5 x6 x8 x9
  unfold result
  rw [sum_apply]
  refine congrArg (0 - ·) (Finset.sum_congr rfl fun n _ => ?_)
  have e1 : k0_pay5 (F := Ideal) x1 = x1 := shapeCast_self _ _
  have e2 : k0_pay6 (F := Ideal) x2 = x2 := shapeCast_self _ _
  rw [e1, e2]
  generalize k0_pay7 x0 x5 x8 x6 x8 x9 = am at ham hE ⊢
  generalize k0_pay8 x0 x5 x8 x6 x8 x9 = amx at hmx hE ⊢
  generalize k0_pay9 x0 x5 x8 x6 x8 x9 = eam at hE ⊢
  generalize k0_pay10 x7 x10 x11 = P at hP ⊢
  rw [Finset.sum_congr rfl fun u _ => waves_last x1 x2 (blanks am amx eam P x3) (labels x2 am amx eam P x3 x4) (B n)
    (fun t u => if u < y n then L n t u else ⊥) n (x n) (y n) (hx n) (hx' n) (hy n) (h1 n) (h2 n)
    (fun d u => tableB_eq _ _ _ (B n) n (fun t u => (blank_cell am amx eam P _ mx _ ham hmx hE hP n (wordRow x3 n) (v n)
      (hv n) t u).trans (hB n t u).symm) d u)
    (fun d u => tableL_eq x2 _ _ _ (L n) n (y n) (hy n) (h2 n) (fun t u => (label_cell am amx eam P _ mx _ ham hmx hE hP n
      (wordRow x3 n) (wordRow x4 n) (v n) (w n) (hv n) (hw n) t u).trans (hL n t u).symm) d u) u]
  rw [Finset.sum_eq_single (⟨y n, by have := hy n; omega⟩ : Fin 129)]
  · rw [if_pos rfl]
  · intro u _ hu
    exact if_neg fun h => hu (Fin.ext h)
  · intro h
    exact absurd (Finset.mem_univ _) h
end

end Cert.Proof.Tower
-- ==== Proof.Cells.lean ====
/- What the two programs have in common, with no program in it: the label before a place, the label after it, a cell's score and
   a table of cells by natural numbers. -/
module

public import proofs.«01_k».proof.Proof.Score

@[expose] public section

noncomputable section

namespace Cert.Proof.Cells

open Idealize.ShloMosaic Cert.Proof.Score

/-- The label before place `u`: class 0 at the first place. -/
def before (l : Fin 8 → Fin 128 → Fin 500) (n : Fin 8) (u : Fin 129) : Fin 500 :=
  if h : u.val = 0 then 0 else l n ⟨u.val - 1, by have := u.isLt; omega⟩

/-- The label after place `u`: class 0 at the last place. -/
def next (l : Fin 8 → Fin 128 → Fin 500) (n : Fin 8) (u : Fin 129) : Fin 500 :=
  if h : u.val < 128 then l n ⟨u.val, h⟩ else 0

/-- A function of a frame and a place, on all natural numbers. -/
def table (f : Fin 512 → Fin 129 → EReal) (t u : ℕ) : EReal :=
  if h : t < 512 ∧ u < 129 then f ⟨t, h.1⟩ ⟨u, h.2⟩ else 0

/-- The table at a frame and a place. -/
theorem table_apply (f : Fin 512 → Fin 129 → EReal) (t : Fin 512) (u : Fin 129) : table f t.val u.val = f t u :=
  dif_pos ⟨t.isLt, u.isLt⟩

section
variable (X : Fin 8 → Fin 512 → Fin 80 → ℝ) (l : Fin 8 → Fin 128 → Fin 500) (We : Fin 80 → Fin 512 → ℝ) (be : Fin 512 → ℝ)
  (E : Fin 500 → Fin 512 → ℝ) (Wa : Fin 512 → Fin 500 → ℝ) (ba : Fin 500 → ℝ) (Wl : Fin 512 → Fin 500 → ℝ) (bl : Fin 500 → ℝ)

/-- The log-probability of class `k` at frame `t` and place `u` of sequence `n`. -/
def cell (n : Fin 8) (t : Fin 512) (u : Fin 129) (k : Fin 500) : EReal :=
  score (fun k => acoustic (X n t) We be (fun j => Wa j k) (ba k)) (fun k => lexical (E (before l n u)) (fun j => Wl j k) (bl k)) k

/-- The blank's log-probabilities of sequence `n`. -/
def blank (n : Fin 8) : ℕ → ℕ → EReal := table fun t u => cell X l We be E Wa ba Wl bl n t u 0

/-- The next label's log-probabilities of sequence `n`. -/
def label (n : Fin 8) : ℕ → ℕ → EReal := table fun t u => cell X l We be E Wa ba Wl bl n t u (next l n u)
end

end Cert.Proof.Cells

end
-- ==== Proof.KernelEnd.lean ====
/- The kernel's result array at the ideal carrier: the launch's one point leaves the result's block, and the windows of that
   point are the arguments as the host lays them out. -/
module

public import proofs.«01_k».proof.Proof.KernelWave
public import proofs.«01_k».proof.Proof.Cells
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 65536
set_option maxHeartbeats 400000

noncomputable section

namespace Cert.Proof.KernelEnd

open Idealize.ShloMosaic Idealize.ShloMosaic.TcCoe Idealize.SL.Sem
open Idealize.ShloMosaic.Pipeline (Dat)
open Cert.KernelIdeal Cert.KernelIdeal.Gen Cert.KernelIdeal.Value Cert.Proof.Tower

variable (m : (ℓ : Loc nD τ sig) → Buf (Elt Ideal) ℓ) (c : Dev nD)

/-- Every window's block is its first one at the one point. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The encoder's weights are staged whole. -/
theorem blk5 : iblk m c 5 t0_0 = m ((c : Thread nD τ).loc main_arg4) := by
  blk_ext! [iblk, V, idx t0_0]

/-- The frames are staged with the sequences one under the other. -/
theorem blk0 : iblk m c 0 t0_0 = shapeCast S4096x80 (m ((c : Thread nD τ).loc main_arg0)) shapeCasts_S8x512x80_S4096x80 := by
  blk_ext! [iblk, V, idx t0_0]

/-- The labels are staged after a column of zeros. -/
theorem blk3 : iblk m c 3 t0_0 = shapeCast S8x129x1 (concatenate S8x129 1 [⟨S8x1, broadcastInDim S8x1 ![] bcast_S_S8x1 (constantI S_ 32 0#32)⟩,
    ⟨S8x128, (m ((c : Thread nD τ).loc main_arg2) : IVec S8x128 32)⟩] concatenates_S8x1_S8x128_S8x129_d1) shapeCasts_S8x129_S8x129x1 := by
  blk_ext! [iblk, V, idx t0_0]

/-- The labels are staged before a column of zeros. -/
theorem blk4 : iblk m c 4 t0_0 = shapeCast S8x129x1 (concatenate S8x129 1 [⟨S8x128, (m ((c : Thread nD τ).loc main_arg2) : IVec S8x128 32)⟩,
    ⟨S8x1, broadcastInDim S8x1 ![] bcast_S_S8x1 (constantI S_ 32 0#32)⟩] concatenates_S8x128_S8x1_S8x129_d1) shapeCasts_S8x129_S8x129x1 := by
  blk_ext! [iblk, V, idx t0_0]

/-- The frame counts are staged as a column. -/
theorem blk1 : iblk m c 1 t0_0 = shapeCast S8x1 (m ((c : Thread nD τ).loc main_arg1)) shapeCasts_S8_S8x1 := by
  blk_ext! [iblk, V, idx t0_0]

/-- The label counts are staged as a column. -/
theorem blk2 : iblk m c 2 t0_0 = shapeCast S8x1 (m ((c : Thread nD τ).loc main_arg3)) shapeCasts_S8_S8x1 := by
  blk_ext! [iblk, V, idx t0_0]

/-- The encoder's bias is staged as a row. -/
theorem blk6 : iblk m c 6 t0_0 = shapeCast S1x512 (m ((c : Thread nD τ).loc main_arg5)) shapeCasts_S512_S1x512 := by
  blk_ext! [iblk, V, idx t0_0]

/-- The embedding is staged whole. -/
theorem blk7 : iblk m c 7 t0_0 = m ((c : Thread nD τ).loc main_arg6) := by
  blk_ext! [iblk, V, idx t0_0]

/-- The acoustic weights are staged whole. -/
theorem blk8 : iblk m c 8 t0_0 = m ((c : Thread nD τ).loc main_arg7) := by
  blk_ext! [iblk, V, idx t0_0]

/-- The acoustic bias is staged as a row. -/
theorem blk9 : iblk m c 9 t0_0 = shapeCast S1x500 (m ((c : Thread nD τ).loc main_arg8)) shapeCasts_S500_S1x500 := by
  blk_ext! [iblk, V, idx t0_0]

/-- The label weights are staged whole. -/
theorem blk10 : iblk m c 10 t0_0 = m ((c : Thread nD τ).loc main_arg9) := by
  blk_ext! [iblk, V, idx t0_0]

/-- The label bias is staged as a row. -/
theorem blk11 : iblk m c 11 t0_0 = shapeCast S1x500 (m ((c : Thread nD τ).loc main_arg10)) shapeCasts_S500_S1x500 := by
  blk_ext! [iblk, V, idx t0_0]

/-- The result array after the launch: the kernel's result of the staged windows. -/
theorem final : (dats m 0 c).arrAt 12 cfg0.N = result (iblk m c 0 t0_0) (iblk m c 1 t0_0) (iblk m c 2 t0_0) (iblk m c 3 t0_0)
    (iblk m c 4 t0_0) (iblk m c 5 t0_0) (iblk m c 6 t0_0) (iblk m c 7 t0_0) (iblk m c 8 t0_0) (iblk m c 9 t0_0) (iblk m c 10 t0_0)
    (iblk m c 11 t0_0) := by
  refine (dats m 0 c).arrAt_eq_of_after_last 12 t0_0 (by decide +kernel) _ fun j => ?_
  blk_simp
  rw [after0_12]
  unfold outsAt0
  rw [out_eq]

/-- A vector as a column. -/
theorem column_apply (v : IVec S8 32) (n : Fin 8) : shapeCast S8x1 v shapeCasts_S8_S8x1 (ix2 n 0) = v (ix1 n) :=
  shapeCast_apply v _ (ix2 n 0) (ix1 n) (by
    rw [Shape.rowMajor_val_two, Shape.rowMajor_val_one]; show n.val = n.val * 1 + 0; omega)

/-- A bias as a row. -/
theorem row512_apply (v : FVec Ideal S512 .f32) (j : Fin 512) : shapeCast S1x512 v shapeCasts_S512_S1x512 (ix2 0 j) = v (ix1 j) :=
  shapeCast_apply v _ (ix2 0 j) (ix1 j) (by
    rw [Shape.rowMajor_val_two, Shape.rowMajor_val_one]; show j.val = 0 * 512 + j.val; omega)

/-- A bias as a row. -/
theorem row500_apply (v : FVec Ideal S500 .f32) (j : Fin 500) : shapeCast S1x500 v shapeCasts_S500_S1x500 (ix2 0 j) = v (ix1 j) :=
  shapeCast_apply v _ (ix2 0 j) (ix1 j) (by
    rw [Shape.rowMajor_val_two, Shape.rowMajor_val_one]; show j.val = 0 * 500 + j.val; omega)

/-- The frames one sequence under the other. -/
theorem frames_apply (v : FVec Ideal S8x512x80 .f32) (r : Fin 4096) (i : Fin 80) :
    shapeCast S4096x80 v shapeCasts_S8x512x80_S4096x80 (ix2 r i)
      = v (ix3 ⟨r.val / 512, by have := r.isLt; omega⟩ ⟨r.val % 512, Nat.mod_lt _ (by norm_num)⟩ i) :=
  shapeCast_apply v _ (ix2 r i) (ix3 _ _ i) (by
    rw [Shape.rowMajor_val_two, Shape.rowMajor_val_three]
    show (r.val / 512 * 512 + r.val % 512) * 80 + i.val = r.val * 80 + i.val
    have := Nat.div_add_mod r.val 512
    have e : r.val / 512 * 512 + r.val % 512 = r.val := by omega
    rw [e])

/-- A matrix of words as a stack of columns. -/
theorem stack_apply (v : IVec S8x129 32) (n : Fin 8) (u : Fin 129) :
    shapeCast S8x129x1 v shapeCasts_S8x129_S8x129x1 (ix3 n u 0) = v (ix2 n u) :=
  shapeCast_apply v _ (ix3 n u 0) (ix2 n u) (by
    rw [Shape.rowMajor_val_two, Shape.rowMajor_val_three]
    show n.val * 129 + u.val = (n.val * 129 + u.val) * 1 + 0
    omega)

section
variable (v : IVec S8x128 32) (l : Fin 8 → Fin 128 → Fin 500) (h : ∀ n u, v (ix2 n u) = BitVec.ofNat 32 (l n u).val)
include h

/-- The labels after a column of zeros. -/
theorem before_apply (n : Fin 8) (u : Fin 129) :
    concatenate S8x129 1 [⟨S8x1, broadcastInDim S8x1 ![] bcast_S_S8x1 (constantI S_ 32 0#32)⟩, ⟨S8x128, v⟩]
      concatenates_S8x1_S8x128_S8x129_d1 (ix2 n u) = BitVec.ofNat 32 (Cells.before l n u).val := by
  have hu := u.isLt
  unfold Cells.before
  by_cases h0 : u.val = 0
  · rw [dif_pos h0, concatenate_pair_apply_left (t := S8x129) (s₁ := S8x1) (s₂ := S8x128) 1 _ _ _ (ix2 n u) rfl
      (ix2 n 0) fun b => by
        match b with
        | ⟨0, _⟩ => rfl
        | ⟨1, _⟩ => exact h0.symm]
    rfl
  · rw [dif_neg h0, concatenate_pair_apply_right (t := S8x129) (s₁ := S8x1) (s₂ := S8x128) 1 _ _ _ (ix2 n u) rfl rfl
      (ix2 n ⟨u.val - 1, by omega⟩) (fun b hb => by
        match b with
        | ⟨0, _⟩ => rfl
        | ⟨1, _⟩ => exact absurd rfl hb) (show u.val - 1 + 1 = u.val by omega)]
    exact h _ _

/-- The labels before a column of zeros. -/
theorem next_apply (n : Fin 8) (u : Fin 129) :
    concatenate S8x129 1 [⟨S8x128, v⟩, ⟨S8x1, broadcastInDim S8x1 ![] bcast_S_S8x1 (constantI S_ 32 0#32)⟩]
      concatenates_S8x128_S8x1_S8x129_d1 (ix2 n u) = BitVec.ofNat 32 (Cells.next l n u).val := by
  have hu := u.isLt
  unfold Cells.next
  by_cases h0 : u.val < 128
  · rw [dif_pos h0, concatenate_pair_apply_left (t := S8x129) (s₁ := S8x128) (s₂ := S8x1) 1 _ _ _ (ix2 n u) rfl
      (ix2 n ⟨u.val, h0⟩) fun b => by
        match b with
        | ⟨0, _⟩ => rfl
        | ⟨1, _⟩ => rfl]
    exact h _ _
  · rw [dif_neg h0, concatenate_pair_apply_right (t := S8x129) (s₁ := S8x128) (s₂ := S8x1) 1 _ _ _ (ix2 n u) rfl rfl
      (ix2 n 0) (fun b hb => by
        match b with
        | ⟨0, _⟩ => rfl
        | ⟨1, _⟩ => exact absurd rfl hb) (show 0 + 128 = u.val by omega)]
    rfl
end

/-- The kernel's result array on real arguments: minus the sum of the sequences' log-likelihoods. -/
theorem kernel_eq
    (a0 : FVec Ideal S8x512x80 .f32) (a1 : IVec S8 32) (a2 : IVec S8x128 32) (a3 : IVec S8 32) (a4 : FVec Ideal S80x512 .f32)
    (a5 : FVec Ideal S512 .f32) (a6 : FVec Ideal S500x512 .f32) (a7 : FVec Ideal S512x500 .f32) (a8 : FVec Ideal S500 .f32)
    (a9 : FVec Ideal S512x500 .f32) (a10 : FVec Ideal S500 .f32)
    (m0 : m ((c : Thread nD τ).loc main_arg0) = a0) (m1 : m ((c : Thread nD τ).loc main_arg1) = a1)
    (m2 : m ((c : Thread nD τ).loc main_arg2) = a2) (m3 : m ((c : Thread nD τ).loc main_arg3) = a3)
    (m4 : m ((c : Thread nD τ).loc main_arg4) = a4) (m5 : m ((c : Thread nD τ).loc main_arg5) = a5)
    (m6 : m ((c : Thread nD τ).loc main_arg6) = a6) (m7 : m ((c : Thread nD τ).loc main_arg7) = a7)
    (m8 : m ((c : Thread nD τ).loc main_arg8) = a8) (m9 : m ((c : Thread nD τ).loc main_arg9) = a9)
    (m10 : m ((c : Thread nD τ).loc main_arg10) = a10)
    (X : Fin 8 → Fin 512 → Fin 80 → ℝ) (l : Fin 8 → Fin 128 → Fin 500) (We : Fin 80 → Fin 512 → ℝ) (be : Fin 512 → ℝ)
    (E : Fin 500 → Fin 512 → ℝ) (Wa : Fin 512 → Fin 500 → ℝ) (ba : Fin 500 → ℝ) (Wl : Fin 512 → Fin 500 → ℝ) (bl : Fin 500 → ℝ)
    (h0 : ∀ n t i, a0 (ix3 n t i) = (X n t i : EReal)) (h2 : ∀ n u, a2 (ix2 n u) = BitVec.ofNat 32 (l n u).val)
    (h4 : ∀ i j, a4 (ix2 i j) = (We i j : EReal)) (h5 : ∀ j, a5 (ix1 j) = (be j : EReal))
    (h6 : ∀ e j, a6 (ix2 e j) = (E e j : EReal)) (h7 : ∀ j k, a7 (ix2 j k) = (Wa j k : EReal))
    (h8 : ∀ k, a8 (ix1 k) = (ba k : EReal)) (h9 : ∀ j k, a9 (ix2 j k) = (Wl j k : EReal))
    (h10 : ∀ k, a10 (ix1 k) = (bl k : EReal))
    (x y : Fin 8 → ℕ) (hx : ∀ n, 1 ≤ x n) (hx' : ∀ n, x n ≤ 512) (hy : ∀ n, y n ≤ 128)
    (h1 : ∀ n, a1 (ix1 n) = BitVec.ofNat 32 (x n)) (h3 : ∀ n, a3 (ix1 n) = BitVec.ofNat 32 (y n)) :
    (dats m 0 c).arrAt 12 cfg0.N (ix2 0 0)
      = 0 - ∑ n : Fin 8, (Wave.cell (Cells.blank X l We be E Wa ba Wl bl n)
            (fun t u => if u < y n then Cells.label X l We be E Wa ba Wl bl n t u else ⊥) (x n - 1) (y n)
          + Cells.blank X l We be E Wa ba Wl bl n (x n - 1) (y n)) := by
  have hf : ∀ (n : Fin 8) (t : Fin 512), X ⟨(frame n t).val / 512, by have := (frame n t).isLt; omega⟩
      ⟨(frame n t).val % 512, Nat.mod_lt _ (by norm_num)⟩ = X n t := fun n t => by
    have ht := t.isLt
    have e1 : (512 * n.val + t.val) / 512 = n.val := by omega
    have e2 : (512 * n.val + t.val) % 512 = t.val := by omega
    exact congrArg₂ X (Fin.ext e1) (Fin.ext e2)
  have w0 : ∀ r i, (iblk m c 0 t0_0 : FVec Ideal S4096x80 .f32) (ix2 r i)
      = ((X ⟨r.val / 512, by have := r.isLt; omega⟩ ⟨r.val % 512, Nat.mod_lt _ (by norm_num)⟩ i : ℝ) : EReal) := fun r i => by
    rw [blk0, m0]; exact (frames_apply a0 r i).trans (h0 _ _ _)
  have w1 : ∀ n, (iblk m c 1 t0_0 : IVec S8x1 32) (ix2 n 0) = BitVec.ofNat 32 (x n) := fun n => by
    rw [blk1, m1]; exact (column_apply a1 n).trans (h1 n)
  have w2 : ∀ n, (iblk m c 2 t0_0 : IVec S8x1 32) (ix2 n 0) = BitVec.ofNat 32 (y n) := fun n => by
    rw [blk2, m3]; exact (column_apply a3 n).trans (h3 n)
  have w3 : ∀ n u, (iblk m c 3 t0_0 : IVec S8x129x1 32) (ix3 n u 0) = BitVec.ofNat 32 (Cells.before l n u).val := fun n u => by
    rw [blk3, m2]; exact (stack_apply _ n u).trans (before_apply a2 l h2 n u)
  have w4 : ∀ n u, (iblk m c 4 t0_0 : IVec S8x129x1 32) (ix3 n u 0) = BitVec.ofNat 32 (Cells.next l n u).val := fun n u => by
    rw [blk4, m2]; exact (stack_apply _ n u).trans (next_apply a2 l h2 n u)
  have w5 : ∀ i j, (iblk m c 5 t0_0 : FVec Ideal S80x512 .f32) (ix2 i j) = (We i j : EReal) := fun i j => by
    rw [blk5, m4]; exact h4 i j
  have w6 : ∀ j, (iblk m c 6 t0_0 : FVec Ideal S1x512 .f32) (ix2 0 j) = (be j : EReal) := fun j => by
    rw [blk6, m5]; exact (row512_apply a5 j).trans (h5 j)
  have w7 : ∀ e j, (iblk m c 7 t0_0 : FVec Ideal S500x512 .f32) (ix2 e j) = (E e j : EReal) := fun e j => by
    rw [blk7, m6]; exact h6 e j
  have w8 : ∀ j k, (iblk m c 8 t0_0 : FVec Ideal S512x500 .f32) (ix2 j k) = (Wa j k : EReal) := fun j k => by
    rw [blk8, m7]; exact h7 j k
  have w9 : ∀ k, (iblk m c 9 t0_0 : FVec Ideal S1x500 .f32) (ix2 0 k) = (ba k : EReal) := fun k => by
    rw [blk9, m8]; exact (row500_apply a8 k).trans (h8 k)
  have w10 : ∀ j k, (iblk m c 10 t0_0 : FVec Ideal S512x500 .f32) (ix2 j k) = (Wl j k : EReal) := fun j k => by
    rw [blk10, m9]; exact h9 j k
  have w11 : ∀ k, (iblk m c 11 t0_0 : FVec Ideal S1x500 .f32) (ix2 0 k) = (bl k : EReal) := fun k => by
    rw [blk11, m10]; exact (row500_apply a10 k).trans (h10 k)
  rw [final]
  refine result_eq (iblk m c 0 t0_0) (iblk m c 1 t0_0) (iblk m c 2 t0_0) (iblk m c 3 t0_0)
    (iblk m c 4 t0_0) (iblk m c 5 t0_0) (iblk m c 6 t0_0) (iblk m c 7 t0_0) (iblk m c 8 t0_0) (iblk m c 9 t0_0) (iblk m c 10 t0_0)
    (iblk m c 11 t0_0) _ We be E Wa ba Wl bl w0 w5 w6 w7 w8 w9 w10 w11 x y (Cells.before l) (Cells.next l) hx hx' hy w1 w2 w3 w4
    (Cells.blank X l We be E Wa ba Wl bl) (Cells.label X l We be E Wa ba Wl bl) ?_ ?_
  · intro n t u
    rw [hf n t]
    exact Cells.table_apply (fun t u => Cells.cell X l We be E Wa ba Wl bl n t u 0) t u
  · intro n t u
    rw [hf n t]
    exact Cells.table_apply (fun t u => Cells.cell X l We be E Wa ba Wl bl n t u (Cells.next l n u)) t u

end Cert.Proof.KernelEnd

end
-- ==== Proof.RefScan.lean ====
/- The reference's loop at the ideal carrier: one trip reads one row of its four tables, shifts the last 129 values by one
   and takes the total at one cell, so its last state holds each sequence's log-likelihood. -/
module

public import proofs.«01_k».proof.Proof.Gen.ReferenceIdeal.Step
public import proofs.«01_k».proof.Proof.Wave
public import Idealize.ShloMosaic.Lib.Pointwise
public import Idealize.ShloMosaic.Lib.DynamicIndex
public import Idealize.ShloMosaic.Lib.ValueIdx

@[expose] public section

set_option maxRecDepth 65536
set_option maxHeartbeats 400000

noncomputable section

namespace Cert.Proof.RefScan

open Idealize.ShloMosaic
open Cert.ReferenceIdeal Cert.ReferenceIdeal.Gen Cert.ReferenceIdeal.Step

/-- Row `j` of a table of 66048 rows is inside it. -/
theorem row_slices (j : ℕ) (hj : j < 66048) : S66048x8.Slices ![j, 0] S1x8 :=
  ⟨rfl, fun a => by
    match a with
    | ⟨0, _⟩ => show j + 1 ≤ 66048; omega
    | ⟨1, _⟩ => show 0 + 8 ≤ 8; omega⟩

/-- The row a trip slices out of a table, by its number. -/
theorem row_apply {α : Type} (T : S66048x8.Idx → α) (j : ℕ) (hj : j < 66048) (n : Fin 8) (s : S66048x8.Slices (fun _ => 0) S1x8) :
    Host.dynamicSlice S1x8 T (fun k => (((![(constantI S_ 32 (BitVec.ofNat 32 j) : IVec S_ 32), (constantI S_ 32 0#32 : IVec S_ 32)] :
      Fin 2 → IVec S_ 32)) k (Shape.Idx.first h_S_)).toInt) s (ix2 0 n) = T (ix2 ⟨j, hj⟩ n) := by
  rw [Host.dynamicSlice_eq_extractStridedSlice S1x8 T _ ![j, 0] s (row_slices j hj) fun a => by
    match a with
    | ⟨0, _⟩ => exact toInt_ofNat_of_lt (by omega)
    | ⟨1, _⟩ => rfl]
  exact extractStridedSlice_apply _ _ _ _ _ fun a => by
    match a with
    | ⟨0, _⟩ => show j = j + 0; omega
    | ⟨1, _⟩ => show n.val = 0 + n.val; omega

/-- A row of one element flattened to a vector. -/
theorem flat_apply {α : Type} (v : S1x8.Idx → α) (h : S1x8.ShapeCasts S8) (n : Fin 8) :
    shapeCast S8 v h (ix1 n) = v (ix2 0 n) :=
  shapeCast_apply v h (ix1 n) (ix2 0 n) (by
    rw [Shape.rowMajor_val_two, Shape.rowMajor_val_one]; show 0 * 8 + n.val = n.val; omega)

section
variable (j : ℕ) (s : State Ideal) (n : Fin 8)

/-- The trip's blank of the frame before. -/
theorem up_apply (hj : j < 66048) : b2 (F := Ideal) j s (ix1 n) = s.main_v85_0 (ix2 ⟨j, hj⟩ n) := by
  unfold b2; rw [flat_apply]; exact row_apply _ j hj n _

/-- The trip's label of the place before. -/
theorem left_apply (hj : j < 66048) : b5 (F := Ideal) j s (ix1 n) = s.main_v85_1 (ix2 ⟨j, hj⟩ n) := by
  unfold b5; rw [flat_apply]; exact row_apply _ j hj n _

/-- The trip's own blank. -/
theorem blank_apply (hj : j < 66048) : b8 (F := Ideal) j s (ix1 n) = s.main_v85_2 (ix2 ⟨j, hj⟩ n) := by
  unfold b8; rw [flat_apply]; exact row_apply _ j hj n _

/-- Whether the trip's cell is the last one. -/
theorem end_apply (hj : j < 66048) : b11 (F := Ideal) j s (ix1 n) = s.main_v85_3 (ix2 ⟨j, hj⟩ n) := by
  unfold b11; rw [flat_apply]; exact row_apply _ j hj n _

/-- The oldest value plus the blank of the frame before. -/
theorem old_apply : b14 (F := Ideal) j s (ix1 n) = s.main_v85_5 (ix2 0 n) + b2 (F := Ideal) j s (ix1 n) := by
  unfold b14 b13 b12
  generalize b2 (F := Ideal) j s = q
  simp only [pointwise]
  exact congrArg (fun k => s.main_v85_5 (ix2 0 k) + q (ix1 n)) (Fin.ext (show 0 + n.val = n.val by omega))

/-- The newest value plus the label of the place before. -/
theorem new_apply : b17 (F := Ideal) j s (ix1 n) = s.main_v85_5 (ix2 128 n) + b5 (F := Ideal) j s (ix1 n) := by
  unfold b17 b16 b15
  generalize b5 (F := Ideal) j s = q
  simp only [pointwise]
  exact congrArg (fun k => s.main_v85_5 (ix2 128 k) + q (ix1 n)) (Fin.ext (show 0 + n.val = n.val by omega))

/-- A value differs from itself nowhere, so the sum branch is never taken. -/
theorem sel_any (p q : EReal) : Scalar.select (Ideal.cmp .une (p - q) (p - q)) (p + q)
    (max p q + Ideal.log1p (Ideal.exp (-(max (p - q) (-(p - q)))))) = Wave.lae p q := by
  have h : Ideal.cmp .une (p - q) (p - q) = BitVec.ofBool false := by
    show BitVec.ofBool (decide (p - q ≠ p - q)) = _
    rw [decide_eq_false (fun h => h rfl)]
  rw [h]; rfl

/-- The trip's new value. -/
theorem value_apply : b27 (F := Ideal) j s (ix1 n) = Wave.lae (b14 (F := Ideal) j s (ix1 n)) (b17 (F := Ideal) j s (ix1 n)) := by
  unfold b27 b26 b25 b24 b23 b22 b21 b20 b19 b18
  generalize b14 (F := Ideal) j s = p
  generalize b17 (F := Ideal) j s = q
  exact sel_any _ _

/-- The window after a trip: shifted by one, the new value last. -/
theorem window_apply (u : Fin 129) : b30 (F := Ideal) j s (ix2 u n)
    = if h : u.val < 128 then s.main_v85_5 (ix2 ⟨u.val + 1, by omega⟩ n) else b27 (F := Ideal) j s (ix1 n) := by
  have hu := u.isLt
  unfold b30 b29 b28
  generalize b27 (F := Ideal) j s = q
  by_cases h : u.val < 128
  · rw [dif_pos h, concatenate_pair_apply_left (t := S129x8) (s₁ := S128x8) (s₂ := S1x8) 0 _ _ _ (ix2 u n) rfl
      (ix2 ⟨u.val, h⟩ n) fun b => by
        match b with
        | ⟨0, _⟩ => rfl
        | ⟨1, _⟩ => rfl]
    exact extractStridedSlice_apply _ _ _ _ _ fun a => by
      match a with
      | ⟨0, _⟩ => show u.val + 1 = 1 + u.val; omega
      | ⟨1, _⟩ => show n.val = 0 + n.val; omega
  · rw [dif_neg h, concatenate_pair_apply_right (t := S129x8) (s₁ := S128x8) (s₂ := S1x8) 0 _ _ _ (ix2 u n) rfl rfl
      (ix2 0 n) (fun b hb => by
        match b with
        | ⟨0, _⟩ => exact absurd rfl hb
        | ⟨1, _⟩ => rfl) (show 0 + 128 = u.val by omega)]
    simp only [pointwise]
    rfl

/-- The total after a trip: taken at the last cell, kept elsewhere. -/
theorem total_apply : b32 (F := Ideal) j s (ix1 n)
    = Scalar.select (b11 (F := Ideal) j s (ix1 n)) (b27 (F := Ideal) j s (ix1 n) + b8 (F := Ideal) j s (ix1 n)) (s.main_v85_6 (ix1 n)) := by
  unfold b32 b31
  generalize b11 (F := Ideal) j s = p
  generalize b27 (F := Ideal) j s = q
  generalize b8 (F := Ideal) j s = r
  simp only [pointwise]

/-- The result: minus the sum of the totals. -/
theorem result_apply : R_main_v88 (F := Ideal) s (ix2 0 0) = -(0 + ∑ n : Fin 8, s.main_v85_6 (ix1 n)) := by
  unfold R_main_v88
  generalize s.main_v85_6 = q
  simp only [pointwise, Ideal.hostReduceAdd_def, Ideal.hostNegf_def]

/-- The window before the first trip: a zero, then −∞. -/
theorem first_apply (u : Fin 129) : K_main_v75 (F := Ideal) (ix2 u n) = if u.val = 0 then (0 : EReal) else ⊥ := by
  have hu := u.isLt
  have hb : Ideal.ofBits .f32 0xFF800000#32 = ⊥ := by simp [Ideal.ofBits, Ideal.ieee]
  have hz : Ideal.ofBits .f32 0x00000000#32 = 0 := by simp [Ideal.ofBits, Ideal.ieee]
  unfold K_main_v75
  by_cases h : u.val = 0
  · rw [if_pos h, concatenate_pair_apply_left (t := S129x8) (s₁ := S1x8) (s₂ := S128x8) 0 _ _ _ (ix2 u n) rfl
      (ix2 0 n) fun b => by
        match b with
        | ⟨0, _⟩ => exact h.symm
        | ⟨1, _⟩ => rfl]
    exact hz
  · rw [if_neg h, concatenate_pair_apply_right (t := S129x8) (s₁ := S1x8) (s₂ := S128x8) 0 _ _ _ (ix2 u n) rfl rfl
      (ix2 ⟨u.val - 1, by omega⟩ n) (fun b hb => by
        match b with
        | ⟨0, _⟩ => exact absurd rfl hb
        | ⟨1, _⟩ => rfl) (show u.val - 1 + 1 = u.val by omega)]
    exact hb
end

section
variable (it : ℕ → State Ideal) (hs : ∀ n, it (n + 1) = step n (it n))
include hs

/-- No trip changes the four tables. -/
theorem keep : ∀ k, (it k).main_v85_0 = (it 0).main_v85_0 ∧ (it k).main_v85_1 = (it 0).main_v85_1
    ∧ (it k).main_v85_2 = (it 0).main_v85_2 ∧ (it k).main_v85_3 = (it 0).main_v85_3
  | 0 => ⟨rfl, rfl, rfl, rfl⟩
  | k + 1 => by
    have h := keep k
    rw [hs k]
    exact h

/-- The loop's result, of what its tables hold. -/
theorem scan_eq (B L : Fin 8 → ℕ → ℕ → EReal) (x y : Fin 8 → ℕ)
    (hx : ∀ n, 1 ≤ x n) (hx' : ∀ n, x n ≤ 512) (hy : ∀ n, y n ≤ 128)
    (h0 : (it 0).main_v85_5 = K_main_v75 (F := Ideal))
    (hu : ∀ (k : Fin 66048) n, (it 0).main_v85_0 (ix2 k n) = Wave.up (B n) k.val)
    (hl : ∀ (k : Fin 66048) n, (it 0).main_v85_1 (ix2 k n) = Wave.left (L n) k.val)
    (hb : ∀ (k : Fin 66048) n, (it 0).main_v85_2 (ix2 k n) = B n (k.val / 129) (k.val % 129))
    (he : ∀ (k : Fin 66048) n, (it 0).main_v85_3 (ix2 k n)
      = BitVec.ofBool (decide (k.val / 129 = x n - 1 ∧ k.val % 129 = y n))) :
    R_main_v88 (F := Ideal) (it 66048) (ix2 0 0)
      = -(0 + ∑ n : Fin 8, (Wave.cell (B n) (L n) (x n - 1) (y n) + B n (x n - 1) (y n))) := by
  rw [result_apply]
  refine congrArg (fun z : EReal => -(0 + z)) (Finset.sum_congr rfl fun n _ => ?_)
  have hval : ∀ k < 66048, b27 (F := Ideal) k (it k) (ix1 n)
      = Wave.lae ((it k).main_v85_5 (ix2 0 n) + Wave.up (B n) k) ((it k).main_v85_5 (ix2 128 n) + Wave.left (L n) k) := fun k hk => by
    rw [value_apply, old_apply, new_apply, up_apply k (it k) n hk, left_apply k (it k) n hk, (keep it hs k).1, (keep it hs k).2.1,
      hu ⟨k, hk⟩ n, hl ⟨k, hk⟩ n]
  refine Wave.sweep (bl := B n) (lb := L n) (fun k j => if h : j < 129 then (it k).main_v85_5 (ix2 ⟨j, h⟩ n) else 0)
    (fun k => (it k).main_v85_6 (ix1 n)) (x n) (y n) (hx n) (hx' n) (hy n) ?_ ?_ ?_
  · intro j hj
    show (if h : j < 129 then (it 0).main_v85_5 (ix2 ⟨j, h⟩ n) else 0) = _
    rw [dif_pos hj, h0, first_apply]
  · intro k hk j hj
    show (if h : j < 129 then (it (k + 1)).main_v85_5 (ix2 ⟨j, h⟩ n) else 0) = _
    rw [dif_pos hj, hs k, step_main_v85_5, window_apply]
    by_cases h : j < 128
    · rw [dif_pos h, if_pos h]
      show _ = if h : j + 1 < 129 then (it k).main_v85_5 (ix2 ⟨j + 1, h⟩ n) else 0
      rw [dif_pos (by omega)]
    · rw [dif_neg h, if_neg h, hval k hk]
      rfl
  · intro k hk
    show (it (k + 1)).main_v85_6 (ix1 n) = _
    rw [hs k, step_main_v85_6, total_apply, end_apply k (it k) n hk, blank_apply k (it k) n hk, (keep it hs k).2.2.1,
      (keep it hs k).2.2.2, he ⟨k, hk⟩ n, hb ⟨k, hk⟩ n, hval k hk]
    by_cases h : k / 129 = x n - 1 ∧ k % 129 = y n
    · rw [if_pos h]
      show Scalar.select (BitVec.ofBool (decide (k / 129 = x n - 1 ∧ k % 129 = y n))) _ _ = _
      rw [decide_eq_true h]
      rfl
    · rw [if_neg h]
      show Scalar.select (BitVec.ofBool (decide (k / 129 = x n - 1 ∧ k % 129 = y n))) _ _ = _
      rw [decide_eq_false h]
      rfl
end

end Cert.Proof.RefScan

end
-- ==== Proof.RefTables.lean ====
/- What the reference computes before its loop, at the ideal carrier, entry by entry: the two projections, the scores, the
   three tables of scores and the table that marks each sequence's last cell. -/
module

public import proofs.«01_k».proof.Proof.RefScan
public import proofs.«01_k».proof.Proof.Cells
public import Idealize.ShloMosaic.Lib.KernelVsHost
public import Idealize.ShloMosaic.Lib.ValueLayout

@[expose] public section

set_option maxRecDepth 65536
set_option maxHeartbeats 400000

noncomputable section

namespace Cert.Proof.RefTables

open Idealize.ShloMosaic
open Cert.ReferenceIdeal Cert.ReferenceIdeal.Gen Cert.ReferenceIdeal.Step Cert.Proof.Score

/-- The bits of −∞. -/
theorem bits_bot : Ideal.ofBits .f32 0xFF800000#32 = ⊥ := by simp [Ideal.ofBits, Ideal.ieee]

/-- The bits of zero. -/
theorem bits_zero : Ideal.ofBits .f32 0x00000000#32 = 0 := by simp [Ideal.ofBits, Ideal.ieee]

/-- Two numbers below 2³² agree as words exactly when they agree. -/
theorem eq_word (a b : ℕ) (ha : a < 2 ^ 32) (hb : b < 2 ^ 32) :
    IntOp.cmpi .eq (BitVec.ofNat 32 a) (BitVec.ofNat 32 b) = BitVec.ofBool (decide (a = b)) := by
  refine congrArg BitVec.ofBool (decide_eq_decide.2 ⟨fun h => ?_, fun h => by rw [h]⟩)
  have := congrArg BitVec.toNat h
  rw [BitVec.toNat_ofNat, BitVec.toNat_ofNat, Nat.mod_eq_of_lt ha, Nat.mod_eq_of_lt hb] at this
  exact this

/-- A place below the label count, as words. -/
theorem slt_word (u y : ℕ) (hu : u < 129) (hy : y ≤ 128) :
    IntOp.cmpi .slt (BitVec.ofNat 32 u) (BitVec.ofNat 32 y) = BitVec.ofBool (decide (u < y)) := by
  have h : ∀ a : Fin 129, ∀ b : Fin 129,
      IntOp.cmpi .slt (BitVec.ofNat 32 a.val) (BitVec.ofNat 32 b.val) = BitVec.ofBool (decide (a.val < b.val)) := by
    decide +kernel
  exact h ⟨u, hu⟩ ⟨y, by omega⟩

/-- A class number is not negative, so wrapping an index leaves it alone. -/
theorem wrap_word (e : Fin 500) :
    Scalar.select (IntOp.cmpi .slt (BitVec.ofNat 32 e.val) 0#32) (IntOp.addi (BitVec.ofNat 32 e.val) 500#32) (BitVec.ofNat 32 e.val)
      = BitVec.ofNat 32 e.val := by
  have h : ∀ e : Fin 500, IntOp.cmpi .slt (BitVec.ofNat 32 e.val) 0#32 = BitVec.ofBool false := by decide +kernel
  rw [h e]; rfl

/-- A class number read back from its word, clamped to the classes, is itself. -/
theorem clamp_word (e : Fin 500) : min (BitVec.ofNat 32 e.val).toInt.toNat (500 - 1) = e.val := by
  have := e.isLt
  rw [toInt_ofNat_of_lt (by omega), Int.toNat_natCast]
  omega

/-- Rows gathered out of a table of 500 by class numbers. -/
theorem rows_apply {α : Type} (x : S500x512.Idx → α) (idx : IVec S8x129x1 32) (n : Fin 8) (u : Fin 129) (j : Fin 512) (e : Fin 500)
    (he : idx (ix3 n u 0) = BitVec.ofNat 32 e.val) :
    Host.gather gather_S500x512_S8x129x1_S8x129x512_2_0_n_n_0_2_1512 x idx (ix3 n u j) = x (ix2 e j) := by
  unfold Host.gather
  refine congrArg x (funext fun a => Fin.ext ?_)
  show GatherDims.start gather_S500x512_S8x129x1_S8x129x512_2_0_n_n_0_2_1512 (ix3 n u j) idx a
    + GatherDims.batchCoord gather_S500x512_S8x129x1_S8x129x512_2_0_n_n_0_2_1512 (ix3 n u j) a
    + GatherDims.offCoord gather_S500x512_S8x129x1_S8x129x512_2_0_n_n_0_2_1512 (ix3 n u j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S500x512.rank) ∈ GatherDims.startIndexMap gather_S500x512_S8x129x1_S8x129x512_2_0_n_n_0_2_1512 from List.mem_singleton.mpr rfl)]
    have hsi : GatherDims.siIdx gather_S500x512_S8x129x1_S8x129x512_2_0_n_n_0_2_1512 (ix3 n u j)
        ⟨List.idxOf (0 : Fin 2) [0], List.idxOf_lt_length_iff.2 (List.mem_singleton.mpr rfl)⟩ = ix3 n u 0 := by
      funext b; refine Fin.ext ?_
      match b with
      | ⟨0, _⟩ => rfl
      | ⟨1, _⟩ => rfl
      | ⟨2, _⟩ => rfl
    refine Eq.trans (congrArg (fun i => min (idx i).toInt.toNat (500 - 1)) hsi) ?_
    show min (idx (ix3 n u 0)).toInt.toNat (500 - 1) = _
    rw [he]
    exact clamp_word e
  | ⟨1, _⟩ =>
    unfold GatherDims.start
    rw [dif_neg (show (⟨1, by decide⟩ : Fin S500x512.rank) ∉ GatherDims.startIndexMap gather_S500x512_S8x129x1_S8x129x512_2_0_n_n_0_2_1512 from fun h => absurd (List.mem_singleton.mp h) (by decide))]
    show 0 + 0 + j.val = j.val
    omega

/-- One class taken at every cell by class numbers. -/
theorem pick_apply {α : Type} (x : S8x512x129x500.Idx → α) (idx : IVec S8x512x129x1x1 32) (n : Fin 8) (t : Fin 512) (u : Fin 129)
    (e : Fin 500) (he : idx (ix5 n t u 0 0) = BitVec.ofNat 32 e.val) :
    Host.gather gather_S8x512x129x500_S8x512x129x1x1_S8x512x129x1_n_3_012_012_3_4_1111 x idx (ix4 n t u 0) = x (ix4 n t u e) := by
  unfold Host.gather
  refine congrArg x (funext fun a => Fin.ext ?_)
  show GatherDims.start gather_S8x512x129x500_S8x512x129x1x1_S8x512x129x1_n_3_012_012_3_4_1111 (ix4 n t u 0) idx a
    + GatherDims.batchCoord gather_S8x512x129x500_S8x512x129x1x1_S8x512x129x1_n_3_012_012_3_4_1111 (ix4 n t u 0) a
    + GatherDims.offCoord gather_S8x512x129x500_S8x512x129x1x1_S8x512x129x1_n_3_012_012_3_4_1111 (ix4 n t u 0) a = _
  have hk : ∀ a, a ∉ GatherDims.sKept gather_S8x512x129x500_S8x512x129x1x1_S8x512x129x1_n_3_012_012_3_4_1111 := by decide
  rw [GatherDims.offCoord_eq_zero _ _ _ (hk a)]
  match a with
  | ⟨0, _⟩ =>
    rw [GatherDims.start_batching _ _ _ _ (show (0 : Fin 4) ∈ [0, 1, 2] by decide)]
    show 0 + n.val + 0 = n.val
    omega
  | ⟨1, _⟩ =>
    rw [GatherDims.start_batching _ _ _ _ (show (1 : Fin 4) ∈ [0, 1, 2] by decide)]
    show 0 + t.val + 0 = t.val
    omega
  | ⟨2, _⟩ =>
    rw [GatherDims.start_batching _ _ _ _ (show (2 : Fin 4) ∈ [0, 1, 2] by decide)]
    show 0 + u.val + 0 = u.val
    omega
  | ⟨3, _⟩ =>
    rw [GatherDims.batchCoord_eq_zero _ _ _ (show (3 : Fin 4) ∉ [0, 1, 2] by decide)]
    unfold GatherDims.start
    rw [dif_pos (show (⟨3, by decide⟩ : Fin S8x512x129x500.rank) ∈ GatherDims.startIndexMap gather_S8x512x129x500_S8x512x129x1x1_S8x512x129x1_n_3_012_012_3_4_1111 from List.mem_singleton.mpr rfl)]
    have hsi : GatherDims.siIdx gather_S8x512x129x500_S8x512x129x1x1_S8x512x129x1_n_3_012_012_3_4_1111 (ix4 n t u 0)
        ⟨List.idxOf (3 : Fin 4) [3], List.idxOf_lt_length_iff.2 (List.mem_singleton.mpr rfl)⟩ = ix5 n t u 0 0 := by
      funext b; refine Fin.ext ?_
      match b with
      | ⟨0, _⟩ => rfl
      | ⟨1, _⟩ => rfl
      | ⟨2, _⟩ => rfl
      | ⟨3, _⟩ => rfl
      | ⟨4, _⟩ => rfl
    refine Eq.trans (congrArg (fun i => min (idx i).toInt.toNat (500 - 1)) hsi) ?_
    show min (idx (ix5 n t u 0 0)).toInt.toNat (500 - 1) = _
    rw [he]
    exact clamp_word e

/-- A table by sequence, frame and place, flattened to one row per cell. -/
theorem flat_apply {α : Type} (v : S8x512x129.Idx → α) (h : S8x512x129.ShapeCasts S8x66048) (h' : S8x66048.Transposes [1, 0] S66048x8)
    (k : Fin 66048) (n : Fin 8) (t : Fin 512) (u : Fin 129) (ht : t.val = k.val / 129) (hu : u.val = k.val % 129) :
    transpose S66048x8 [1, 0] (shapeCast S8x66048 v h) h' (ix2 k n) = v (ix3 n t u) := by
  refine (transpose_apply _ _ h' (ix2 k n) (ix2 n k) fun b => by
    match b with
    | ⟨0, _⟩ => rfl
    | ⟨1, _⟩ => rfl).trans (shapeCast_apply v h (ix2 n k) (ix3 n t u) ?_)
  rw [Shape.rowMajor_val_two, Shape.rowMajor_val_three]
  show (n.val * 512 + t.val) * 129 + u.val = n.val * 66048 + k.val
  have := Nat.div_add_mod k.val 129
  omega

section
variable (a0 : FVec Ideal S8x512x80 .f32) (a1 : IVec S8 32) (a2 : IVec S8x128 32) (a3 : IVec S8 32) (a4 : FVec Ideal S80x512 .f32)
  (a5 : FVec Ideal S512 .f32) (a6 : FVec Ideal S500x512 .f32) (a7 : FVec Ideal S512x500 .f32) (a8 : FVec Ideal S500 .f32)
  (a9 : FVec Ideal S512x500 .f32) (a10 : FVec Ideal S500 .f32)

/-- The encoder's layer. -/
theorem enc_apply (n : Fin 8) (t : Fin 512) (j : Fin 512) :
    A_main_v3 (F := Ideal) a0 a1 a2 a3 a4 a5 a6 a7 a8 a9 a10 (ix3 n t j) = (∑ i : Fin 80, a0 (ix3 n t i) * a4 (ix2 i j)) + a5 (ix1 j) := by
  unfold A_main_v3 A_main_v2 A_main_v1 A_main_v0
  simp only [pointwise]
  exact congrArg (· + a5 (ix1 j)) (zero_add _)

/-- The acoustic layer. -/
theorem am_apply (n : Fin 8) (t : Fin 512) (k : Fin 500) :
    A_main_v15 (F := Ideal) a0 a1 a2 a3 a4 a5 a6 a7 a8 a9 a10 (ix3 n t k) = (∑ j : Fin 512, A_main_v3 (F := Ideal) a0 a1 a2 a3 a4 a5 a6 a7 a8 a9 a10 (ix3 n t j) * a7 (ix2 j k)) + a8 (ix1 k) := by
  unfold A_main_v15 A_main_v14 A_main_v13 A_main_v12
  generalize A_main_v3 (F := Ideal) a0 a1 a2 a3 a4 a5 a6 a7 a8 a9 a10 = e
  simp only [pointwise]
  exact congrArg (· + a8 (ix1 k)) (zero_add _)

/-- The label layer. -/
theorem lm_apply (n : Fin 8) (u : Fin 129) (k : Fin 500) :
    A_main_v19 (F := Ideal) a0 a1 a2 a3 a4 a5 a6 a7 a8 a9 a10 (ix3 n u k) = (∑ j : Fin 512, A_main_v11 (F := Ideal) a0 a1 a2 a3 a4 a5 a6 a7 a8 a9 a10 (ix3 n u j) * a9 (ix2 j k)) + a10 (ix1 k) := by
  unfold A_main_v19 A_main_v18 A_main_v17 A_main_v16
  generalize A_main_v11 (F := Ideal) a0 a1 a2 a3 a4 a5 a6 a7 a8 a9 a10 = e
  simp only [pointwise]
  exact congrArg (· + a10 (ix1 k)) (zero_add _)

/-- The joint network: the sum of the two layers. -/
theorem joint_apply (n : Fin 8) (t : Fin 512) (u : Fin 129) (k : Fin 500) :
    A_main_v31 (F := Ideal) a0 a1 a2 a3 a4 a5 a6 a7 a8 a9 a10 (ix4 n t u k) = A_main_v15 (F := Ideal) a0 a1 a2 a3 a4 a5 a6 a7 a8 a9 a10 (ix3 n t k) + A_main_v19 (F := Ideal) a0 a1 a2 a3 a4 a5 a6 a7 a8 a9 a10 (ix3 n u k) := by
  unfold A_main_v31 A_main_v30 A_main_v29 A_main_v28 A_main_v27
  generalize A_main_v15 (F := Ideal) a0 a1 a2 a3 a4 a5 a6 a7 a8 a9 a10 = p
  generalize A_main_v19 (F := Ideal) a0 a1 a2 a3 a4 a5 a6 a7 a8 a9 a10 = q
  simp only [pointwise]
  rfl

/-- The largest class of a cell. -/
theorem top_apply (n : Fin 8) (t : Fin 512) (u : Fin 129) :
    A_main_v32 (F := Ideal) a0 a1 a2 a3 a4 a5 a6 a7 a8 a9 a10 (ix3 n t u) = Finset.univ.fold max (⊥ : EReal) fun k : Fin 500 => A_main_v31 (F := Ideal) a0 a1 a2 a3 a4 a5 a6 a7 a8 a9 a10 (ix4 n t u k) := by
  unfold A_main_v32
  generalize A_main_v31 (F := Ideal) a0 a1 a2 a3 a4 a5 a6 a7 a8 a9 a10 = p
  simp only [pointwise]
  unfold K_main_cst
  simp only [pointwise]
  rw [← bits_bot]

/-- The scores: the joint network less its largest class less the logarithm of the sum of exponentials. -/
theorem logp_apply (n : Fin 8) (t : Fin 512) (u : Fin 129) (k : Fin 500) :
    A_main_v41 (F := Ideal) a0 a1 a2 a3 a4 a5 a6 a7 a8 a9 a10 (ix4 n t u k) = (A_main_v31 (F := Ideal) a0 a1 a2 a3 a4 a5 a6 a7 a8 a9 a10 (ix4 n t u k) - A_main_v32 (F := Ideal) a0 a1 a2 a3 a4 a5 a6 a7 a8 a9 a10 (ix3 n t u))
      - Ideal.log (0 + ∑ j : Fin 500, Ideal.exp (A_main_v31 (F := Ideal) a0 a1 a2 a3 a4 a5 a6 a7 a8 a9 a10 (ix4 n t u j) - A_main_v32 (F := Ideal) a0 a1 a2 a3 a4 a5 a6 a7 a8 a9 a10 (ix3 n t u))) := by
  unfold A_main_v41 A_main_v40 A_main_v39 A_main_v38 A_main_v37 A_main_v36 A_main_v35 A_main_v34 A_main_v33 K_main_cst_3
  generalize A_main_v31 (F := Ideal) a0 a1 a2 a3 a4 a5 a6 a7 a8 a9 a10 = p
  generalize A_main_v32 (F := Ideal) a0 a1 a2 a3 a4 a5 a6 a7 a8 a9 a10 = q
  simp only [pointwise, Ideal.hostReduceAdd_def, Ideal.hostUnary_exp_def, Ideal.hostUnary_log_def]
  rfl

/-- The blank's score. -/
theorem blank_apply (n : Fin 8) (t : Fin 512) (u : Fin 129) : A_main_v43 (F := Ideal) a0 a1 a2 a3 a4 a5 a6 a7 a8 a9 a10 (ix3 n t u) = A_main_v41 (F := Ideal) a0 a1 a2 a3 a4 a5 a6 a7 a8 a9 a10 (ix4 n t u 0) := by
  unfold A_main_v43 A_main_v42
  generalize A_main_v41 (F := Ideal) a0 a1 a2 a3 a4 a5 a6 a7 a8 a9 a10 = p
  refine (shapeCast_apply _ _ (ix3 n t u) (ix4 n t u 0) ?_).trans (extractStridedSlice_apply _ _ _ _ _ fun a => by
    match a with
    | ⟨0, _⟩ => show n.val = 0 + n.val; omega
    | ⟨1, _⟩ => show t.val = 0 + t.val; omega
    | ⟨2, _⟩ => show u.val = 0 + u.val; omega
    | ⟨3, _⟩ => rfl)
  rw [Shape.rowMajor_val_three, Shape.rowMajor_val_four]
  show ((n.val * 512 + t.val) * 129 + u.val) * 1 + 0 = (n.val * 512 + t.val) * 129 + u.val
  omega

/-- A sequence's labels after a leading class 0. -/
theorem before_apply (l : Fin 8 → Fin 128 → Fin 500) (h2 : ∀ n u, a2 (ix2 n u) = BitVec.ofNat 32 (l n u).val)
    (n : Fin 8) (u : Fin 129) : A_main_v4 (F := Ideal) a0 a1 a2 a3 a4 a5 a6 a7 a8 a9 a10 (ix2 n u) = BitVec.ofNat 32 (Cells.before l n u).val := by
  unfold A_main_v4 Cells.before
  by_cases h : u.val = 0
  · rw [dif_pos h, pad_apply_of_not_inside _ _ _ _ _ _ _ (ix2 n u) 1 fun hh => absurd (show 1 ≤ u.val from hh.1) (by omega)]
    rfl
  · rw [dif_neg h, ← h2]
    exact pad_apply_of_inside _ _ _ _ _ _ _ (ix2 n u) (ix2 n ⟨u.val - 1, by have := u.isLt; omega⟩) fun a => by
      match a with
      | ⟨0, _⟩ => show n.val = 0 + n.val * (0 + 1); omega
      | ⟨1, _⟩ => show u.val = 1 + (u.val - 1) * (0 + 1); omega

/-- A sequence's labels before a trailing class 0. -/
theorem next_apply (l : Fin 8 → Fin 128 → Fin 500) (h2 : ∀ n u, a2 (ix2 n u) = BitVec.ofNat 32 (l n u).val)
    (n : Fin 8) (u : Fin 129) : A_main_v20 (F := Ideal) a0 a1 a2 a3 a4 a5 a6 a7 a8 a9 a10 (ix2 n u) = BitVec.ofNat 32 (Cells.next l n u).val := by
  unfold A_main_v20 Cells.next
  by_cases h : u.val < 128
  · rw [dif_pos h, ← h2]
    exact pad_apply_of_inside _ _ _ _ _ _ _ (ix2 n u) (ix2 n ⟨u.val, h⟩) fun a => by
      match a with
      | ⟨0, _⟩ => show n.val = 0 + n.val * (0 + 1); omega
      | ⟨1, _⟩ => show u.val = 0 + u.val * (0 + 1); omega
  · rw [dif_neg h, pad_apply_of_not_inside _ _ _ _ _ _ _ (ix2 n u) 1 fun hh =>
      absurd (show (u.val - 0) / (0 + 1) < 128 from hh.2.2) (by rw [Nat.sub_zero, Nat.zero_add, Nat.div_one]; exact h)]
    rfl

/-- The embedding row of the label before a place. -/
theorem emb_apply (e : Fin 8 → Fin 129 → Fin 500) (h4 : ∀ n u, A_main_v4 (F := Ideal) a0 a1 a2 a3 a4 a5 a6 a7 a8 a9 a10 (ix2 n u) = BitVec.ofNat 32 (e n u).val)
    (n : Fin 8) (u : Fin 129) (j : Fin 512) : A_main_v11 (F := Ideal) a0 a1 a2 a3 a4 a5 a6 a7 a8 a9 a10 (ix3 n u j) = a6 (ix2 (e n u) j) := by
  have hw : A_main_v10 (F := Ideal) a0 a1 a2 a3 a4 a5 a6 a7 a8 a9 a10 (ix3 n u 0) = BitVec.ofNat 32 (e n u).val := by
    have h := h4 n u
    unfold A_main_v10 A_main_v9 A_main_v8 A_main_v6 K_main_v7 K_main_v5 K_main_c_0 K_main_c_1
    generalize A_main_v4 (F := Ideal) a0 a1 a2 a3 a4 a5 a6 a7 a8 a9 a10 = p at h ⊢
    simp only [pointwise]
    refine Eq.trans ?_ (wrap_word (e n u))
    rw [← h]
    rfl
  unfold A_main_v11
  exact rows_apply _ _ n u j (e n u) hw

/-- The next label's score. -/
theorem label_apply (w : Fin 8 → Fin 129 → Fin 500) (h20 : ∀ n u, A_main_v20 (F := Ideal) a0 a1 a2 a3 a4 a5 a6 a7 a8 a9 a10 (ix2 n u) = BitVec.ofNat 32 (w n u).val)
    (n : Fin 8) (t : Fin 512) (u : Fin 129) : A_main_v47 (F := Ideal) a0 a1 a2 a3 a4 a5 a6 a7 a8 a9 a10 (ix3 n t u) = A_main_v41 (F := Ideal) a0 a1 a2 a3 a4 a5 a6 a7 a8 a9 a10 (ix4 n t u (w n u)) := by
  have h5 : A_main_call0_v5 (F := Ideal) a0 a1 a2 a3 a4 a5 a6 a7 a8 a9 a10 (ix5 n t u 0 0) = BitVec.ofNat 32 (w n u).val := by
    have h := h20 n u
    unfold A_main_call0_v5
    refine (shapeCast_apply _ _ (ix5 n t u 0 0) (ix4 n t u 0) ?_).trans ?_
    · rw [Shape.rowMajor_val_four, Shape.rowMajor_val_five]
      show ((n.val * 512 + t.val) * 129 + u.val) * 1 + 0 = (((n.val * 512 + t.val) * 129 + u.val) * 1 + 0) * 1 + 0
      omega
    unfold A_main_call0_v4 A_main_call0_v3 A_main_call0_v1 A_main_v45 A_main_v44 K_main_call0_v2 K_main_call0_v0 K_main_call0_c
      K_main_call0_c_0
    generalize A_main_v20 (F := Ideal) a0 a1 a2 a3 a4 a5 a6 a7 a8 a9 a10 = p at h ⊢
    simp only [pointwise]
    refine Eq.trans ?_ (wrap_word (w n u))
    rw [← h]
    rfl
  unfold A_main_v47 A_main_v46
  generalize A_main_v41 (F := Ideal) a0 a1 a2 a3 a4 a5 a6 a7 a8 a9 a10 = p
  refine (shapeCast_apply _ _ (ix3 n t u) (ix4 n t u 0) ?_).trans (pick_apply _ _ n t u (w n u) h5)
  rw [Shape.rowMajor_val_three, Shape.rowMajor_val_four]
  show ((n.val * 512 + t.val) * 129 + u.val) * 1 + 0 = (n.val * 512 + t.val) * 129 + u.val
  omega

/-- The label's score where there is a label left, −∞ elsewhere. -/
theorem masked_apply (y : Fin 8 → ℕ) (hy : ∀ n, y n ≤ 128) (h3 : ∀ n, a3 (ix1 n) = BitVec.ofNat 32 (y n))
    (n : Fin 8) (t : Fin 512) (u : Fin 129) :
    A_main_v51 (F := Ideal) a0 a1 a2 a3 a4 a5 a6 a7 a8 a9 a10 (ix3 n t u) = if u.val < y n then A_main_v47 (F := Ideal) a0 a1 a2 a3 a4 a5 a6 a7 a8 a9 a10 (ix3 n t u) else ⊥ := by
  have hm : A_main_v49 (F := Ideal) a0 a1 a2 a3 a4 a5 a6 a7 a8 a9 a10 (ix3 n t u) = BitVec.ofBool (decide (u.val < y n)) := by
    rw [← slt_word u.val (y n) u.isLt (hy n), ← h3 n]
    unfold A_main_v49 A_main_v48 A_main_v26 A_main_v25 A_main_v23 K_main_v24 K_main_v22 K_main_v21
    simp only [pointwise]
    rfl
  have hs : A_main_v51 (F := Ideal) a0 a1 a2 a3 a4 a5 a6 a7 a8 a9 a10 (ix3 n t u) = Scalar.select (A_main_v49 (F := Ideal) a0 a1 a2 a3 a4 a5 a6 a7 a8 a9 a10 (ix3 n t u)) (A_main_v47 (F := Ideal) a0 a1 a2 a3 a4 a5 a6 a7 a8 a9 a10 (ix3 n t u)) (⊥ : EReal) := by
    unfold A_main_v51 K_main_v50 K_main_cst_4
    generalize A_main_v49 (F := Ideal) a0 a1 a2 a3 a4 a5 a6 a7 a8 a9 a10 = p
    generalize A_main_v47 (F := Ideal) a0 a1 a2 a3 a4 a5 a6 a7 a8 a9 a10 = q
    simp only [pointwise]
    rw [← bits_bot]
  rw [hs, hm]
  by_cases h : u.val < y n
  · rw [if_pos h, decide_eq_true h]; rfl
  · rw [if_neg h, decide_eq_false h]; rfl

/-- The blank of the frame before, zero at the first frame. -/
theorem up_apply (n : Fin 8) (t : Fin 512) (u : Fin 129) :
    A_main_v53 (F := Ideal) a0 a1 a2 a3 a4 a5 a6 a7 a8 a9 a10 (ix3 n t u) = if h : t.val = 0 then (0 : EReal) else A_main_v43 (F := Ideal) a0 a1 a2 a3 a4 a5 a6 a7 a8 a9 a10 (ix3 n ⟨t.val - 1, by omega⟩ u) := by
  have ht := t.isLt
  unfold A_main_v53 A_main_v52
  generalize A_main_v43 (F := Ideal) a0 a1 a2 a3 a4 a5 a6 a7 a8 a9 a10 = p
  by_cases h : t.val = 0
  · rw [dif_pos h, pad_apply_of_not_inside _ _ _ _ _ _ _ (ix3 n t u) 1 fun hh => absurd (show 1 ≤ t.val from hh.1) (by omega)]
    exact bits_zero
  · rw [dif_neg h]
    refine (pad_apply_of_inside _ _ _ _ _ _ _ (ix3 n t u) (ix3 n ⟨t.val - 1, by omega⟩ u) fun a => by
      match a with
      | ⟨0, _⟩ => show n.val = 0 + n.val * (0 + 1); omega
      | ⟨1, _⟩ => show t.val = 1 + (t.val - 1) * (0 + 1); omega
      | ⟨2, _⟩ => show u.val = 0 + u.val * (0 + 1); omega).trans (extractStridedSlice_apply _ _ _ _ _ fun a => by
      match a with
      | ⟨0, _⟩ => show n.val = 0 + n.val; omega
      | ⟨1, _⟩ => show t.val - 1 = 0 + (t.val - 1); omega
      | ⟨2, _⟩ => show u.val = 0 + u.val; omega)

/-- The label's score of the place before, −∞ at the first place. -/
theorem left_apply (n : Fin 8) (t : Fin 512) (u : Fin 129) :
    A_main_v55 (F := Ideal) a0 a1 a2 a3 a4 a5 a6 a7 a8 a9 a10 (ix3 n t u) = if h : u.val = 0 then (⊥ : EReal) else A_main_v51 (F := Ideal) a0 a1 a2 a3 a4 a5 a6 a7 a8 a9 a10 (ix3 n t ⟨u.val - 1, by omega⟩) := by
  have hu := u.isLt
  unfold A_main_v55 A_main_v54
  generalize A_main_v51 (F := Ideal) a0 a1 a2 a3 a4 a5 a6 a7 a8 a9 a10 = p
  by_cases h : u.val = 0
  · rw [dif_pos h, pad_apply_of_not_inside _ _ _ _ _ _ _ (ix3 n t u) 2 fun hh => absurd (show 1 ≤ u.val from hh.1) (by omega)]
    exact bits_bot
  · rw [dif_neg h]
    refine (pad_apply_of_inside _ _ _ _ _ _ _ (ix3 n t u) (ix3 n t ⟨u.val - 1, by omega⟩) fun a => by
      match a with
      | ⟨0, _⟩ => show n.val = 0 + n.val * (0 + 1); omega
      | ⟨1, _⟩ => show t.val = 0 + t.val * (0 + 1); omega
      | ⟨2, _⟩ => show u.val = 1 + (u.val - 1) * (0 + 1); omega).trans (extractStridedSlice_apply _ _ _ _ _ fun a => by
      match a with
      | ⟨0, _⟩ => show n.val = 0 + n.val; omega
      | ⟨1, _⟩ => show t.val = 0 + t.val; omega
      | ⟨2, _⟩ => show u.val - 1 = 0 + (u.val - 1); omega)

/-- The mark of a sequence's last cell. -/
theorem end_apply (x y : Fin 8 → ℕ) (hx : ∀ n, 1 ≤ x n) (hx' : ∀ n, x n ≤ 512) (hy : ∀ n, y n ≤ 128)
    (h1 : ∀ n, a1 (ix1 n) = BitVec.ofNat 32 (x n)) (h3 : ∀ n, a3 (ix1 n) = BitVec.ofNat 32 (y n))
    (n : Fin 8) (t : Fin 512) (u : Fin 129) :
    A_main_v71 (F := Ideal) a0 a1 a2 a3 a4 a5 a6 a7 a8 a9 a10 (ix3 n t u) = BitVec.ofBool (decide (t.val = x n - 1 ∧ u.val = y n)) := by
  have ht := t.isLt
  have hu := u.isLt
  have h1x := hx n
  have h2x := hx' n
  have h1y := hy n
  have hsub : IntOp.subi (BitVec.ofNat 32 (x n)) 1#32 = BitVec.ofNat 32 (x n - 1) := by
    show BitVec.ofNat 32 (x n) - 1#32 = _
    apply BitVec.eq_of_toNat_eq
    simp only [BitVec.toNat_sub, BitVec.toNat_ofNat]
    omega
  have hs : A_main_v71 (F := Ideal) a0 a1 a2 a3 a4 a5 a6 a7 a8 a9 a10 (ix3 n t u) = IntOp.andi (IntOp.cmpi .eq (BitVec.ofNat 32 t.val) (IntOp.subi (a1 (ix1 n)) 1#32))
      (IntOp.cmpi .eq (BitVec.ofNat 32 u.val) (a3 (ix1 n))) := by
    unfold A_main_v71 A_main_v70 A_main_v69 A_main_v68 A_main_v67 A_main_v65 A_main_v63 A_main_v62 A_main_v60 A_main_v58
      K_main_v66 K_main_v64 K_main_v61 K_main_v59 K_main_v57 K_main_v56 K_main_v21 K_main_c_7
    simp only [pointwise]
    rfl
  rw [hs, h1, h3, hsub, eq_word _ _ (by omega) (by omega), eq_word _ _ (by omega) (by omega)]
  by_cases h : t.val = x n - 1 <;> by_cases h' : u.val = y n
  · rw [decide_eq_true h, decide_eq_true h', decide_eq_true ⟨h, h'⟩]; rfl
  · rw [decide_eq_true h, decide_eq_false h', decide_eq_false fun hh => h' hh.2]; rfl
  · rw [decide_eq_false h, decide_eq_true h', decide_eq_false fun hh => h hh.1]; rfl
  · rw [decide_eq_false h, decide_eq_false h', decide_eq_false fun hh => h hh.1]; rfl
end

end Cert.Proof.RefTables

end
-- ==== Proof.RefValue.lean ====
/- The reference's value at the ideal carrier on real arguments: minus the sum of the sequences' log-likelihoods. -/
module

public import proofs.«01_k».proof.Proof.RefTables

@[expose] public section

set_option maxRecDepth 65536
set_option maxHeartbeats 400000

noncomputable section

namespace Cert.Proof.RefValue

open Idealize.ShloMosaic
open Cert.ReferenceIdeal Cert.ReferenceIdeal.Gen Cert.ReferenceIdeal.Step Cert.Proof.Score Cert.Proof.RefTables

section
variable (a0 : FVec Ideal S8x512x80 .f32) (a1 : IVec S8 32) (a2 : IVec S8x128 32) (a3 : IVec S8 32) (a4 : FVec Ideal S80x512 .f32)
  (a5 : FVec Ideal S512 .f32) (a6 : FVec Ideal S500x512 .f32) (a7 : FVec Ideal S512x500 .f32) (a8 : FVec Ideal S500 .f32)
  (a9 : FVec Ideal S512x500 .f32) (a10 : FVec Ideal S500 .f32)
  (X : Fin 8 → Fin 512 → Fin 80 → ℝ) (l : Fin 8 → Fin 128 → Fin 500) (We : Fin 80 → Fin 512 → ℝ) (be : Fin 512 → ℝ)
  (E : Fin 500 → Fin 512 → ℝ) (Wa : Fin 512 → Fin 500 → ℝ) (ba : Fin 500 → ℝ) (Wl : Fin 512 → Fin 500 → ℝ) (bl : Fin 500 → ℝ)
  (h0 : ∀ n t i, a0 (ix3 n t i) = (X n t i : EReal)) (h2 : ∀ n u, a2 (ix2 n u) = BitVec.ofNat 32 (l n u).val)
  (h4 : ∀ i j, a4 (ix2 i j) = (We i j : EReal)) (h5 : ∀ j, a5 (ix1 j) = (be j : EReal))
  (h6 : ∀ e j, a6 (ix2 e j) = (E e j : EReal)) (h7 : ∀ j k, a7 (ix2 j k) = (Wa j k : EReal))
  (h8 : ∀ k, a8 (ix1 k) = (ba k : EReal)) (h9 : ∀ j k, a9 (ix2 j k) = (Wl j k : EReal))
  (h10 : ∀ k, a10 (ix1 k) = (bl k : EReal))

include h0 h4 h5 h7 h8 in
/-- The acoustic layer over the reals. -/
theorem am_real (n : Fin 8) (t : Fin 512) (k : Fin 500) :
    A_main_v15 (F := Ideal) a0 a1 a2 a3 a4 a5 a6 a7 a8 a9 a10 (ix3 n t k) = (acoustic (X n t) We be (fun j => Wa j k) (ba k) : EReal) := by
  rw [am_apply, ← acoustic_ref, h8]
  refine congrArg (· + (ba k : EReal)) (Finset.sum_congr rfl fun j _ => ?_)
  rw [enc_apply, h7, h5]
  refine congrArg (fun z => (z + (be j : EReal)) * (Wa j k : EReal)) (Finset.sum_congr rfl fun i _ => ?_)
  rw [h0, h4]

include h2 h6 h9 h10 in
/-- The label layer over the reals. -/
theorem lm_real (n : Fin 8) (u : Fin 129) (k : Fin 500) :
    A_main_v19 (F := Ideal) a0 a1 a2 a3 a4 a5 a6 a7 a8 a9 a10 (ix3 n u k) = (lexical (E (Cells.before l n u)) (fun j => Wl j k) (bl k) : EReal) := by
  rw [lm_apply, ← lexical_eq, h10]
  refine congrArg (· + (bl k : EReal)) (Finset.sum_congr rfl fun j _ => ?_)
  rw [emb_apply a0 a1 a2 a3 a4 a5 a6 a7 a8 a9 a10 (Cells.before l) (before_apply a0 a1 a2 a3 a4 a5 a6 a7 a8 a9 a10 l h2), h6, h9]

include h0 h2 h4 h5 h6 h7 h8 h9 h10

/-- The scores over the reals. -/
theorem cell_eq (n : Fin 8) (t : Fin 512) (u : Fin 129) (k : Fin 500) :
    A_main_v41 (F := Ideal) a0 a1 a2 a3 a4 a5 a6 a7 a8 a9 a10 (ix4 n t u k) = Cells.cell X l We be E Wa ba Wl bl n t u k := by
  have hj : ∀ k, A_main_v31 (F := Ideal) a0 a1 a2 a3 a4 a5 a6 a7 a8 a9 a10 (ix4 n t u k) = (acoustic (X n t) We be (fun j => Wa j k) (ba k) : EReal)
      + (lexical (E (Cells.before l n u)) (fun j => Wl j k) (bl k) : EReal) := fun k => by
    rw [joint_apply, am_real a0 a1 a2 a3 a4 a5 a6 a7 a8 a9 a10 X We be Wa ba h0 h4 h5 h7 h8 n t k,
      lm_real a0 a1 a2 a3 a4 a5 a6 a7 a8 a9 a10 l E Wl bl h2 h6 h9 h10 n u k]
  obtain ⟨r, hr⟩ := fold_max_real Finset.univ Finset.univ_nonempty fun k : Fin 500 =>
    acoustic (X n t) We be (fun j => Wa j k) (ba k) + lexical (E (Cells.before l n u)) (fun j => Wl j k) (bl k)
  have ht : A_main_v32 (F := Ideal) a0 a1 a2 a3 a4 a5 a6 a7 a8 a9 a10 (ix3 n t u) = (r : EReal) := by
    rw [top_apply, ← hr]
    refine congrArg (fun f => Finset.univ.fold max (⊥ : EReal) f) (funext fun k => ?_)
    rw [hj, EReal.coe_add]
  rw [logp_apply, ht, hj]
  refine Eq.trans ?_ (ref_score (fun k => acoustic (X n t) We be (fun j => Wa j k) (ba k))
    (fun k => lexical (E (Cells.before l n u)) (fun j => Wl j k) (bl k)) r k)
  refine congrArg (fun z => _ - Ideal.log (0 + z)) (Finset.sum_congr rfl fun j _ => ?_)
  rw [hj]

variable (x y : Fin 8 → ℕ) (hx : ∀ n, 1 ≤ x n) (hx' : ∀ n, x n ≤ 512) (hy : ∀ n, y n ≤ 128)
  (h1 : ∀ n, a1 (ix1 n) = BitVec.ofNat 32 (x n)) (h3 : ∀ n, a3 (ix1 n) = BitVec.ofNat 32 (y n))
include hx hx' hy h1 h3

/-- The reference's result. -/
theorem reference_eq (it : ℕ → State Ideal) (i0 : it 0 = init (F := Ideal) a0 a1 a2 a3 a4 a5 a6 a7 a8 a9 a10) (hs : ∀ n, it (n + 1) = step n (it n)) :
    R_main_v88 (F := Ideal) (it 66048) (ix2 0 0)
      = -(0 + ∑ n : Fin 8, (Wave.cell (Cells.blank X l We be E Wa ba Wl bl n)
            (fun t u => if u < y n then Cells.label X l We be E Wa ba Wl bl n t u else ⊥) (x n - 1) (y n)
          + Cells.blank X l We be E Wa ba Wl bl n (x n - 1) (y n))) := by
  have hc := cell_eq a0 a1 a2 a3 a4 a5 a6 a7 a8 a9 a10 X l We be E Wa ba Wl bl h0 h2 h4 h5 h6 h7 h8 h9 h10
  have hb : ∀ n (t : Fin 512) (u : Fin 129), A_main_v43 (F := Ideal) a0 a1 a2 a3 a4 a5 a6 a7 a8 a9 a10 (ix3 n t u) = Cells.blank X l We be E Wa ba Wl bl n t.val u.val := fun n t u => by
    rw [RefTables.blank_apply, hc]
    exact (Cells.table_apply (fun t u => Cells.cell X l We be E Wa ba Wl bl n t u 0) t u).symm
  have hl : ∀ n (t : Fin 512) (u : Fin 129), A_main_v51 (F := Ideal) a0 a1 a2 a3 a4 a5 a6 a7 a8 a9 a10 (ix3 n t u)
      = if u.val < y n then Cells.label X l We be E Wa ba Wl bl n t.val u.val else ⊥ := fun n t u => by
    rw [masked_apply a0 a1 a2 a3 a4 a5 a6 a7 a8 a9 a10 y hy h3, label_apply a0 a1 a2 a3 a4 a5 a6 a7 a8 a9 a10 (Cells.next l)
      (next_apply a0 a1 a2 a3 a4 a5 a6 a7 a8 a9 a10 l h2), hc]
    exact if_congr Iff.rfl (Cells.table_apply (fun t u => Cells.cell X l We be E Wa ba Wl bl n t u (Cells.next l n u)) t u).symm rfl
  have hk : ∀ k : Fin 66048, k.val / 129 < 512 := fun k => by have := k.isLt; omega
  have hm : ∀ k : Fin 66048, k.val % 129 < 129 := fun k => Nat.mod_lt _ (by norm_num)
  have e5 : (it 0).main_v85_5 = K_main_v75 (F := Ideal) := by rw [i0]; rfl
  have e0 : (it 0).main_v85_0 = A_main_v78 (F := Ideal) a0 a1 a2 a3 a4 a5 a6 a7 a8 a9 a10 := by rw [i0]; rfl
  have e1 : (it 0).main_v85_1 = A_main_v80 (F := Ideal) a0 a1 a2 a3 a4 a5 a6 a7 a8 a9 a10 := by rw [i0]; rfl
  have e2 : (it 0).main_v85_2 = A_main_v82 (F := Ideal) a0 a1 a2 a3 a4 a5 a6 a7 a8 a9 a10 := by rw [i0]; rfl
  have e3 : (it 0).main_v85_3 = A_main_v84 (F := Ideal) a0 a1 a2 a3 a4 a5 a6 a7 a8 a9 a10 := by rw [i0]; rfl
  refine RefScan.scan_eq it hs (fun n => Cells.blank X l We be E Wa ba Wl bl n)
    (fun n t u => if u < y n then Cells.label X l We be E Wa ba Wl bl n t u else ⊥) x y hx hx' hy e5 ?_ ?_ ?_ ?_
  · intro k n
    rw [e0]
    unfold A_main_v78 A_main_v77
    rw [flat_apply _ _ _ k n ⟨_, hk k⟩ ⟨_, hm k⟩ rfl rfl, RefTables.up_apply, Wave.up]
    by_cases h : k.val / 129 = 0
    · rw [if_pos h]; exact dif_pos h
    · rw [if_neg h]; exact (dif_neg h).trans (hb n ⟨k.val / 129 - 1, by have := hk k; omega⟩ ⟨_, hm k⟩)
  · intro k n
    rw [e1]
    unfold A_main_v80 A_main_v79
    rw [flat_apply _ _ _ k n ⟨_, hk k⟩ ⟨_, hm k⟩ rfl rfl, RefTables.left_apply, Wave.left]
    by_cases h : k.val % 129 = 0
    · rw [if_pos h]; exact dif_pos h
    · rw [if_neg h]; exact (dif_neg h).trans (hl n ⟨_, hk k⟩ ⟨k.val % 129 - 1, by have := hm k; omega⟩)
  · intro k n
    rw [e2]
    unfold A_main_v82 A_main_v81
    rw [flat_apply _ _ _ k n ⟨_, hk k⟩ ⟨_, hm k⟩ rfl rfl]
    exact hb n ⟨_, hk k⟩ ⟨_, hm k⟩
  · intro k n
    rw [e3]
    unfold A_main_v84 A_main_v83
    rw [flat_apply _ _ _ k n ⟨_, hk k⟩ ⟨_, hm k⟩ rfl rfl]
    exact end_apply a0 a1 a2 a3 a4 a5 a6 a7 a8 a9 a10 x y hx hx' hy h1 h3 n ⟨_, hk k⟩ ⟨_, hm k⟩
end

end Cert.Proof.RefValue

end
-- ==== Proof.PreValue.lean ====
/- What the precondition says of the arguments: the counts and labels are small words, and every float is a real. -/
module

public import proofs.«01_k».proof.Pre_in_range
public import proofs.«01_k».proof.Proof.Score
public import Idealize.ShloMosaic.Lib.ReduceAll
public import Idealize.ShloMosaic.Lib.StableHlo.Predicate
public import Idealize.ShloMosaic.Lib.Pointwise

@[expose] public section

set_option maxRecDepth 65536

noncomputable section

namespace Cert.Proof.PreValue

open Idealize.ShloMosaic Idealize.ShloMosaic.TcCoe
open Cert.Pre_in_range Cert.Pre_in_range.Facts

variable [Cert.Pre_in_range.Facts]

/-- A scalar has one index. -/
theorem one_index : Subsingleton S_.Idx := ⟨fun _ _ => funext fun k => k.elim0⟩

/-- The pattern the precondition compares with is the top value. -/
theorem bits_top : Ideal.ofBits .f32 0x7F800000#32 = (⊤ : EReal) := by
  simp [Ideal.ofBits, Ideal.ieee]

/-- An array whose entries are all below the top in absolute value is an array of reals. -/
theorem finite {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) : ∃ g : s.Idx → ℝ, a = fun i => (g i : EReal) := by
  haveI := one_index
  refine Score.reals a fun i => ?_
  have e1 := Host.reduce_andi_all _ _ _ _ j e i
  have e2 : BitVec.ofBool (decide (max (a i) (-(a i)) < Ideal.ofBits .f32 0x7F800000#32)) = 1#1 := e1
  rw [bits_top] at e2
  exact of_decide_eq_true ((StableHlo.Predicate.ofBool_eq_one_iff _).1 e2)

/-- Two bits whose conjunction is one are one. -/
theorem both (x y : IVec S_ 1) (j : S_.Idx) (e : andi x y j = 1#1) : x j = 1#1 ∧ y j = 1#1 := IntOp.andi_eq_one.1 e

/-- A word between two small words, both ends counted. -/
theorem word_le (v : BitVec 32) (lo hi : ℕ) (h1 : lo < 2 ^ 31) (h2 : hi < 2 ^ 31)
    (e : IntOp.andi (IntOp.cmpi .sge v (BitVec.ofNat 32 lo)) (IntOp.cmpi .sle v (BitVec.ofNat 32 hi)) = 1#1) :
    lo ≤ v.toNat ∧ v.toNat ≤ hi := by
  obtain ⟨e1, e2⟩ := IntOp.andi_eq_one.1 e
  simp only [IntOp.cmpi, BitVec.sle_eq_decide, StableHlo.Predicate.ofBool_eq_one_iff, decide_eq_true_eq,
    StableHlo.Predicate.toInt_ofNat_small lo h1, StableHlo.Predicate.toInt_ofNat_small hi h2, BitVec.toInt_eq_toNat_cond, Nat.reducePow] at e1 e2
  omega

/-- A word between two small words, the upper end left out. -/
theorem word_lt (v : BitVec 32) (lo hi : ℕ) (h1 : lo < 2 ^ 31) (h2 : hi < 2 ^ 31)
    (e : IntOp.andi (IntOp.cmpi .sge v (BitVec.ofNat 32 lo)) (IntOp.cmpi .slt v (BitVec.ofNat 32 hi)) = 1#1) :
    lo ≤ v.toNat ∧ v.toNat < hi := by
  obtain ⟨e1, e2⟩ := IntOp.andi_eq_one.1 e
  simp only [IntOp.cmpi, BitVec.sle_eq_decide, BitVec.slt_eq_decide, StableHlo.Predicate.ofBool_eq_one_iff, decide_eq_true_eq,
    StableHlo.Predicate.toInt_ofNat_small lo h1, StableHlo.Predicate.toInt_ofNat_small hi h2, BitVec.toInt_eq_toNat_cond, Nat.reducePow] at e1 e2
  omega

/-- A word is the word of its value. -/
theorem word_eq (v : BitVec 32) : v = BitVec.ofNat 32 v.toNat := by simp

/-- The precondition read back: real arrays, labels below the vocabulary's size, and counts inside the rectangle. -/
theorem read
    (a0 : FVec Ideal S8x512x80 .f32) (a1 : IVec S8 32) (a2 : IVec S8x128 32) (a3 : IVec S8 32) (a4 : FVec Ideal S80x512 .f32)
    (a5 : FVec Ideal S512 .f32) (a6 : FVec Ideal S500x512 .f32) (a7 : FVec Ideal S512x500 .f32) (a8 : FVec Ideal S500 .f32)
    (a9 : FVec Ideal S512x500 .f32) (a10 : FVec Ideal S500 .f32)
    (h : fn (F := Ideal) a0 a1 a2 a3 a4 a5 a6 a7 a8 a9 a10 = fun _ => 1#1) :
    ∃ (X : Fin 8 → Fin 512 → Fin 80 → ℝ) (l : Fin 8 → Fin 128 → Fin 500) (We : Fin 80 → Fin 512 → ℝ) (be : Fin 512 → ℝ)
      (E : Fin 500 → Fin 512 → ℝ) (Wa : Fin 512 → Fin 500 → ℝ) (ba : Fin 500 → ℝ) (Wl : Fin 512 → Fin 500 → ℝ) (bl : Fin 500 → ℝ)
      (x y : Fin 8 → ℕ),
      (∀ n t i, a0 (ix3 n t i) = (X n t i : EReal)) ∧ (∀ n u, a2 (ix2 n u) = BitVec.ofNat 32 (l n u).val) ∧
      (∀ i j, a4 (ix2 i j) = (We i j : EReal)) ∧ (∀ j, a5 (ix1 j) = (be j : EReal)) ∧
      (∀ e j, a6 (ix2 e j) = (E e j : EReal)) ∧ (∀ j k, a7 (ix2 j k) = (Wa j k : EReal)) ∧
      (∀ k, a8 (ix1 k) = (ba k : EReal)) ∧ (∀ j k, a9 (ix2 j k) = (Wl j k : EReal)) ∧ (∀ k, a10 (ix1 k) = (bl k : EReal)) ∧
      (∀ n, 1 ≤ x n) ∧ (∀ n, x n ≤ 512) ∧ (∀ n, y n ≤ 128) ∧
      (∀ n, a1 (ix1 n) = BitVec.ofNat 32 (x n)) ∧ (∀ n, a3 (ix1 n) = BitVec.ofNat 32 (y n)) := by
  haveI := one_index
  have e := congrFun h (fun k => k.elim0)
  generalize (fun k => k.elim0 : S_.Idx) = j at e
  dsimp only [fn, fn_part1, fn_part2, fn_part3] at e
  obtain ⟨eI, eF⟩ := both _ _ _ e
  obtain ⟨eI, i3⟩ := both _ _ _ eI
  obtain ⟨i1, i2⟩ := both _ _ _ eI
  obtain ⟨eF, f10⟩ := both _ _ _ eF
  obtain ⟨eF, f9⟩ := both _ _ _ eF
  obtain ⟨eF, f8⟩ := both _ _ _ eF
  obtain ⟨eF, f7⟩ := both _ _ _ eF
  obtain ⟨eF, f6⟩ := both _ _ _ eF
  obtain ⟨eF, f5⟩ := both _ _ _ eF
  obtain ⟨eF, f4⟩ := both _ _ _ eF
  obtain ⟨_, f0⟩ := both _ _ _ eF
  obtain ⟨g0, q0⟩ := finite a0 _ _ _ j f0
  obtain ⟨g4, q4⟩ := finite a4 _ _ _ j f4
  obtain ⟨g5, q5⟩ := finite a5 _ _ _ j f5
  obtain ⟨g6, q6⟩ := finite a6 _ _ _ j f6
  obtain ⟨g7, q7⟩ := finite a7 _ _ _ j f7
  obtain ⟨g8, q8⟩ := finite a8 _ _ _ j f8
  obtain ⟨g9, q9⟩ := finite a9 _ _ _ j f9
  obtain ⟨g10, q10⟩ := finite a10 _ _ _ j f10
  have r1 : ∀ n : Fin 8, 1 ≤ (a1 (ix1 n)).toNat ∧ (a1 (ix1 n)).toNat ≤ 512 := fun n =>
    word_le (a1 (ix1 n)) 1 512 (by norm_num) (by norm_num) (Host.reduce_andi_all _ _ _ _ j i1 (ix1 n))
  have r2 : ∀ (n : Fin 8) (u : Fin 128), 0 ≤ (a2 (ix2 n u)).toNat ∧ (a2 (ix2 n u)).toNat < 500 := fun n u =>
    word_lt (a2 (ix2 n u)) 0 500 (by norm_num) (by norm_num) (Host.reduce_andi_all _ _ _ _ j i2 (ix2 n u))
  have r3 : ∀ n : Fin 8, 0 ≤ (a3 (ix1 n)).toNat ∧ (a3 (ix1 n)).toNat ≤ 128 := fun n =>
    word_le (a3 (ix1 n)) 0 128 (by norm_num) (by norm_num) (Host.reduce_andi_all _ _ _ _ j i3 (ix1 n))
  exact ⟨fun n t i => g0 (ix3 n t i), fun n u => ⟨(a2 (ix2 n u)).toNat, (r2 n u).2⟩, fun i j => g4 (ix2 i j), fun j => g5 (ix1 j),
    fun e j => g6 (ix2 e j), fun j k => g7 (ix2 j k), fun k => g8 (ix1 k), fun j k => g9 (ix2 j k), fun k => g10 (ix1 k),
    fun n => (a1 (ix1 n)).toNat, fun n => (a3 (ix1 n)).toNat,
    fun n t i => congrFun q0 (ix3 n t i), fun n u => word_eq _, fun i j => congrFun q4 (ix2 i j), fun j => congrFun q5 (ix1 j),
    fun e j => congrFun q6 (ix2 e j), fun j k => congrFun q7 (ix2 j k), fun k => congrFun q8 (ix1 k), fun j k => congrFun q9 (ix2 j k),
    fun k => congrFun q10 (ix1 k), fun n => (r1 n).1, fun n => (r1 n).2, fun n => (r3 n).2, fun n => word_eq _, fun n => word_eq _⟩

end Cert.Proof.PreValue

end
-- ==== Proof.Equal.lean ====
/- The kernel and the reference end with one result, at the ideal carrier, under the precondition. -/
module

public import proofs.«01_k».proof.Defs
public import proofs.«01_k».proof.Proof.KernelEnd
public import proofs.«01_k».proof.Proof.RefValue
public import proofs.«01_k».proof.Proof.PreValue
public import proofs.«01_k».proof.Proof.Gen.ReferenceIdeal.StepRun
public import proofs.«01_k».proof.Proof.Gen.Pre_in_range

@[expose] public section

set_option maxRecDepth 65536
set_option maxHeartbeats 400000

noncomputable section

namespace Cert.Proof.Equal

open Idealize.ShloMosaic Idealize.ShloMosaic.TcCoe Idealize.SL.Sem

/-- The states of the reference's loop, one after the other from a first one. -/
theorem states (s : Cert.ReferenceIdeal.Step.State Ideal) : ∃ it : ℕ → Cert.ReferenceIdeal.Step.State Ideal,
    it 0 = s ∧ ∀ n, it (n + 1) = Cert.ReferenceIdeal.Step.step n (it n) :=
  ⟨fun n => Nat.rec s (fun n s => Cert.ReferenceIdeal.Step.step n s) n, rfl, fun _ => rfl⟩

/-- An array of one row and one column has one index. -/
theorem one_index (j : Cert.KernelIdeal.S1x1.Idx) : j = ix2 0 0 := funext fun a =>
  match a with
  | ⟨0, _⟩ => Subsingleton.elim (α := Fin 1) _ _
  | ⟨1, _⟩ => Subsingleton.elim (α := Fin 1) _ _

/-- The two result arrays, of one memory's arguments under the precondition. -/
theorem results (m : (ℓ : Loc Cert.KernelIdeal.nD Cert.KernelIdeal.τ Cert.KernelIdeal.sig) → Buf (Elt Ideal) ℓ)
    (c : Dev Cert.KernelIdeal.nD)
    (a0 : FVec Ideal Cert.KernelIdeal.S8x512x80 .f32) (a1 : IVec Cert.KernelIdeal.S8 32) (a2 : IVec Cert.KernelIdeal.S8x128 32)
    (a3 : IVec Cert.KernelIdeal.S8 32) (a4 : FVec Ideal Cert.KernelIdeal.S80x512 .f32)
    (a5 : FVec Ideal Cert.KernelIdeal.S512 .f32) (a6 : FVec Ideal Cert.KernelIdeal.S500x512 .f32)
    (a7 : FVec Ideal Cert.KernelIdeal.S512x500 .f32) (a8 : FVec Ideal Cert.KernelIdeal.S500 .f32)
    (a9 : FVec Ideal Cert.KernelIdeal.S512x500 .f32) (a10 : FVec Ideal Cert.KernelIdeal.S500 .f32)
    (m0 : m ((c : Thread Cert.KernelIdeal.nD Cert.KernelIdeal.τ).loc Cert.KernelIdeal.main_arg0) = a0) (m1 : m ((c : Thread Cert.KernelIdeal.nD Cert.KernelIdeal.τ).loc Cert.KernelIdeal.main_arg1) = a1)
    (m2 : m ((c : Thread Cert.KernelIdeal.nD Cert.KernelIdeal.τ).loc Cert.KernelIdeal.main_arg2) = a2) (m3 : m ((c : Thread Cert.KernelIdeal.nD Cert.KernelIdeal.τ).loc Cert.KernelIdeal.main_arg3) = a3)
    (m4 : m ((c : Thread Cert.KernelIdeal.nD Cert.KernelIdeal.τ).loc Cert.KernelIdeal.main_arg4) = a4) (m5 : m ((c : Thread Cert.KernelIdeal.nD Cert.KernelIdeal.τ).loc Cert.KernelIdeal.main_arg5) = a5)
    (m6 : m ((c : Thread Cert.KernelIdeal.nD Cert.KernelIdeal.τ).loc Cert.KernelIdeal.main_arg6) = a6) (m7 : m ((c : Thread Cert.KernelIdeal.nD Cert.KernelIdeal.τ).loc Cert.KernelIdeal.main_arg7) = a7)
    (m8 : m ((c : Thread Cert.KernelIdeal.nD Cert.KernelIdeal.τ).loc Cert.KernelIdeal.main_arg8) = a8) (m9 : m ((c : Thread Cert.KernelIdeal.nD Cert.KernelIdeal.τ).loc Cert.KernelIdeal.main_arg9) = a9)
    (m10 : m ((c : Thread Cert.KernelIdeal.nD Cert.KernelIdeal.τ).loc Cert.KernelIdeal.main_arg10) = a10)
    (hpre : Cert.Pre_in_range.fn (F := Ideal) a0 a1 a2 a3 a4 a5 a6 a7 a8 a9 a10 = fun _ => 1#1)
    (it : ℕ → Cert.ReferenceIdeal.Step.State Ideal) (i0 : it 0 = Cert.ReferenceIdeal.Step.init a0 a1 a2 a3 a4 a5 a6 a7 a8 a9 a10)
    (hs : ∀ n, it (n + 1) = Cert.ReferenceIdeal.Step.step n (it n)) (n : ℕ) (hn : n = 66048) :
    Cert.ReferenceIdeal.Step.R_main_v88 (F := Ideal) (it n) = (Cert.KernelIdeal.Gen.dats m 0 c).arrAt 12 Cert.KernelIdeal.cfg0.N := by
  obtain ⟨X, l, We, be, E, Wa, ba, Wl, bl, x, y, h0, h2, h4, h5, h6, h7, h8, h9, h10, hx, hx', hy, h1, h3⟩ :=
    PreValue.read a0 a1 a2 a3 a4 a5 a6 a7 a8 a9 a10 hpre
  have hR := RefValue.reference_eq a0 a1 a2 a3 a4 a5 a6 a7 a8 a9 a10 X l We be E Wa ba Wl bl h0 h2 h4 h5 h6 h7 h8 h9 h10
    x y hx hx' hy h1 h3 it i0 hs
  have hK := KernelEnd.kernel_eq m c a0 a1 a2 a3 a4 a5 a6 a7 a8 a9 a10 m0 m1 m2 m3 m4 m5 m6 m7 m8 m9 m10 X l We be E Wa ba Wl bl
    h0 h2 h4 h5 h6 h7 h8 h9 h10 x y hx hx' hy h1 h3
  rw [← hn] at hR
  refine funext fun j => ?_
  rw [one_index j]
  rw [zero_sub] at hK
  rw [zero_add] at hR
  exact hR.trans hK.symm

/-- From memories that agree on the arguments and meet the precondition, both programs end with equal results. -/
theorem algebraic : Cert.algebraic_KernelIdeal_ReferenceIdeal_pre_in_range := by
  intro m g m' g' hpre hag
  choose it i0 hs using fun c => states (Cert.ReferenceIdeal.StepRun.initState m' c)
  refine ⟨fun c => (Cert.KernelIdeal.Gen.dats m 0 c).arrAt 12 Cert.KernelIdeal.cfg0.N, Cert.KernelIdeal.Value.run_blocks m g,
    (θ_run _ _ _).mono (fun r h c => ⟨(h c).1.trans ?_, (h c).2⟩) (Cert.ReferenceIdeal.StepRun.run_iter m' g' it i0 hs)⟩
  clear h r
  have i1 := i0 c
  obtain ⟨q0, q1, q2, q3, q4, q5, q6, q7, q8, q9, q10⟩ := hag c
  unfold Cert.ReferenceIdeal.StepRun.initState at i1
  rw [q0, q1, q2, q3, q4, q5, q6, q7, q8, q9, q10] at i1
  exact results m c _ _ _ _ _ _ _ _ _ _ _ rfl rfl rfl rfl rfl rfl rfl rfl rfl rfl rfl (hpre c) (it c) i1 (hs c) 66048 rfl

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.KernelIdeal.Value
public import proofs.«01_k».proof.Proof.Gen.Pre_in_range
public import Idealize.ShloMosaic.Adequacy
public import Idealize.ShloMosaic.Init
public import Idealize.ShloMosaic.Lib.Quiescent
public import proofs.«01_k».proof.Proof.Equal

@[expose] public section

noncomputable section

namespace Cert.Proof

open Idealize.ShloMosaic Idealize.SL.Sem Cert.Kernel

/-- The reference ends, with its arguments unchanged and every semaphore counter at zero: it declares none. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  IdealRules.named_const.statement Cert.KernelIdeal.κ "neg" .f32 0xF149F2CA#32 ⊥ rfl, Equal.algebraic⟩

end Cert.Proof

end
